-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x256x4x64 .f32 := (extf .f32 · bitsLt_bf16_f32) main_arg2
  let main_v12 : FVec F S2x256x4x64 .f32 := Host.absf main_v11
  let main_cst_2 : FVec F S_ .f32 := constant S_ .f32 0x7F800000#32
  let main_v13 : FVec F S2x256x4x64 .f32 := broadcastInDim S2x256x4x64 ![] bcast_S_S2x256x4x64 main_cst_2
  let main_v14 : IVec S2x256x4x64 1 := cmpf .olt main_v12 main_v13
  let main_c_3 : IVec S_ 1 := constantI S_ 1 1#1
  let main_v15 : IVec S_ 1 := (fun x v => Host.reduce IntOp.andi x v reducesTo_S2x256x4x64_S_d0_1_2_3 h_S_) main_v14 main_c_3
  let main_v16 : IVec S_ 1 := andi main_v10 main_v15
  main_v16
-- ==== Pre_finite_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x2048x512 .bf16) (main_arg1 : FVec F S512x256 .bf16) (main_arg2 : FVec F S2x2048x4x64 .bf16) (main_arg3 : FVec F S2x2048x4x64 .bf16) (main_arg4 : FVec F S256x512 .bf16) : IVec S_ 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_c : IVec S_ 1 := constantI S_ 1 1#1
  let main_v4 : IVec S_ 1 := (fun x v => Host.reduce IntOp.andi x v reducesTo_S2x2048x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x2048x4x64 .f32 := (extf .f32 · bitsLt_bf16_f32) main_arg2
  let main_v12 : FVec F S2x2048x4x64 .f32 := Host.absf main_v11
  let main_cst_2 : FVec F S_ .f32 := constant S_ .f32 0x7F800000#32
  let main_v13 : FVec F S2x2048x4x64 .f32 := broadcastInDim S2x2048x4x64 ![] bcast_S_S2x2048x4x64 main_cst_2
  let main_v14 : IVec S2x2048x4x64 1 := cmpf .olt main_v12 main_v13
  let main_c_3 : IVec S_ 1 := constantI S_ 1 1#1
  let main_v15 : IVec S_ 1 := (fun x v => Host.reduce IntOp.andi x v reducesTo_S2x2048x4x64_S_d0_1_2_3 h_S_) main_v14 main_c_3
  let main_v16 : IVec S_ 1 := andi main_v10 main_v15
  main_v16
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S5x2x2x256x256 : Shape := ⟨5, ![5, 2, 2, 256, 256]⟩
abbrev S4x2x2x256x256 : Shape := ⟨5, ![4, 2, 2, 256, 256]⟩
abbrev S4x4 : Shape := ⟨2, ![4, 4]⟩
abbrev S3x4 : Shape := ⟨2, ![3, 4]⟩
abbrev S_ : Shape := ⟨0, ![]⟩
abbrev S2x256x256 : Shape := ⟨3, ![2, 256, 256]⟩
abbrev S1x1x2x256x256 : Shape := ⟨5, ![1, 1, 2, 256, 256]⟩
abbrev S1x1 : Shape := ⟨2, ![1, 1]⟩
abbrev S1x1x1x256x256 : Shape := ⟨5, ![1, 1, 1, 256, 256]⟩
abbrev S256x256 : Shape := ⟨2, ![256, 256]⟩
abbrev S1x256x512 : Shape := ⟨3, ![1, 256, 512]⟩
abbrev S1x256x256 : Shape := ⟨3, ![1, 256, 256]⟩
abbrev S256x64 : Shape := ⟨2, ![256, 64]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S5x2x2x256x256, .bf16⟩
  | .local _ .vmem, ⟨7, _⟩ => ⟨S4x2x2x256x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_46 : BitVec 32 := 1#32
  let v31 : BitVec 32 := Scalar.muli v7 c1_i32_46
  let v32 : BitVec 32 := Scalar.addi c0_i32_47 v31
  v32.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_62 : BitVec 32 := 1#32
  let v41 : BitVec 32 := Scalar.muli v5 c1_i32_62
  let v42 : BitVec 32 := Scalar.addi c0_i32_63 v41
  v42.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_78 : BitVec 32 := 1#32
  let v51 : BitVec 32 := Scalar.muli v7 c1_i32_78
  let v52 : BitVec 32 := Scalar.addi c0_i32_79 v51
  v52.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_94 : BitVec 32 := 1#32
  let v61 : BitVec 32 := Scalar.muli v5 c1_i32_94
  let v62 : BitVec 32 := Scalar.addi c0_i32_95 v61
  v62.toNat
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_110 : BitVec 32 := 1#32
  let v71 : BitVec 32 := Scalar.muli v7 c1_i32_110
  let v72 : BitVec 32 := Scalar.addi c0_i32_111 v71
  v72.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_126 : BitVec 32 := 1#32
  let v81 : BitVec 32 := Scalar.muli v5 c1_i32_126
  let v82 : BitVec 32 := Scalar.addi c0_i32_127 v81
  v82.toNat
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_141 : BitVec 32 := 1#32
  let v91 : BitVec 32 := Scalar.muli v7 c1_i32_141
  let v92 : BitVec 32 := Scalar.addi c0_i32_142 v91
  v92.toNat
def k0_dev10 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_157 : BitVec 32 := 1#32
  let v101 : BitVec 32 := Scalar.muli v5 c1_i32_157
  let v102 : BitVec 32 := Scalar.addi c0_i32_158 v101
  v102.toNat
def k0_dev11 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_247 : BitVec 32 := 1#32
  let v313 : BitVec 32 := Scalar.muli v7 c1_i32_247
  let v314 : BitVec 32 := Scalar.addi c0_i32_248 v313
  v314.toNat
def k0_dev12 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_279 : BitVec 32 := 1#32
  let v331 : BitVec 32 := Scalar.muli v7 c1_i32_279
  let v332 : BitVec 32 := Scalar.addi c0_i32_280 v331
  v332.toNat
def k0_dev13 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_341 : BitVec 32 := 1#32
  let v420 : BitVec 32 := Scalar.muli v7 c1_i32_341
  let v421 : BitVec 32 := Scalar.addi c0_i32_342 v420
  v421.toNat
def k0_dev14 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_373 : BitVec 32 := 1#32
  let v438 : BitVec 32 := Scalar.muli v7 c1_i32_373
  let v439 : BitVec 32 := Scalar.addi c0_i32_374 v438
  v439.toNat
def k0_dev15 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_435 : BitVec 32 := 1#32
  let v527 : BitVec 32 := Scalar.muli v5 c1_i32_435
  let v528 : BitVec 32 := Scalar.addi c0_i32_436 v527
  v528.toNat
def k0_dev16 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_467 : BitVec 32 := 1#32
  let v545 : BitVec 32 := Scalar.muli v5 c1_i32_467
  let v546 : BitVec 32 := Scalar.addi c0_i32_468 v545
  v546.toNat
def k0_dev17 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_528 : BitVec 32 := 1#32
  let v633 : BitVec 32 := Scalar.muli v5 c1_i32_528
  let v634 : BitVec 32 := Scalar.addi c0_i32_529 v633
  v634.toNat
def k0_dev18 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_560 : BitVec 32 := 1#32
  let v651 : BitVec 32 := Scalar.muli v5 c1_i32_560
  let v652 : BitVec 32 := Scalar.addi c0_i32_561 v651
  v652.toNat
def k0_dev19 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_621 : BitVec 32 := 1#32
  let v739 : BitVec 32 := Scalar.muli v7 c1_i32_621
  let v740 : BitVec 32 := Scalar.addi c0_i32_622 v739
  v740.toNat
def k0_dev20 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_653 : BitVec 32 := 1#32
  let v757 : BitVec 32 := Scalar.muli v7 c1_i32_653
  let v758 : BitVec 32 := Scalar.addi c0_i32_654 v757
  v758.toNat
def k0_dev21 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_714 : BitVec 32 := 1#32
  let v846 : BitVec 32 := Scalar.muli v7 c1_i32_714
  let v847 : BitVec 32 := Scalar.addi c0_i32_715 v846
  v847.toNat
def k0_dev22 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_746 : BitVec 32 := 1#32
  let v864 : BitVec 32 := Scalar.muli v7 c1_i32_746
  let v865 : BitVec 32 := Scalar.addi c0_i32_747 v864
  v865.toNat
def k0_dev23 (d0 : Dev nD) : Nat :=
  let c0_i32_809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_808 : BitVec 32 := 1#32
  let v953 : BitVec 32 := Scalar.muli v5 c1_i32_808
  let v954 : BitVec 32 := Scalar.addi c0_i32_809 v953
  v954.toNat
def k0_dev24 (d0 : Dev nD) : Nat :=
  let c0_i32_841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_840 : BitVec 32 := 1#32
  let v971 : BitVec 32 := Scalar.muli v5 c1_i32_840
  let v972 : BitVec 32 := Scalar.addi c0_i32_841 v971
  v972.toNat
def k0_dev25 (d0 : Dev nD) : Nat :=
  let c0_i32_902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_901 : BitVec 32 := 1#32
  let v1059 : BitVec 32 := Scalar.muli v5 c1_i32_901
  let v1060 : BitVec 32 := Scalar.addi c0_i32_902 v1059
  v1060.toNat
def k0_dev26 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_933 : BitVec 32 := 1#32
  let v1077 : BitVec 32 := Scalar.muli v5 c1_i32_933
  let v1078 : BitVec 32 := Scalar.addi c0_i32_934 v1077
  v1078.toNat
def k0_dev27 (d0 : Dev nD) : Nat :=
  let c0_i32_994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_993 : BitVec 32 := 1#32
  let v1165 : BitVec 32 := Scalar.muli v7 c1_i32_993
  let v1166 : BitVec 32 := Scalar.addi c0_i32_994 v1165
  v1166.toNat
def k0_dev28 (d0 : Dev nD) : Nat :=
  let c0_i32_1026 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1025 : BitVec 32 := 1#32
  let v1183 : BitVec 32 := Scalar.muli v7 c1_i32_1025
  let v1184 : BitVec 32 := Scalar.addi c0_i32_1026 v1183
  v1184.toNat
def k0_dev29 (d0 : Dev nD) : Nat :=
  let c0_i32_1087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1086 : BitVec 32 := 1#32
  let v1272 : BitVec 32 := Scalar.muli v7 c1_i32_1086
  let v1273 : BitVec 32 := Scalar.addi c0_i32_1087 v1272
  v1273.toNat
def k0_dev30 (d0 : Dev nD) : Nat :=
  let c0_i32_1119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1118 : BitVec 32 := 1#32
  let v1290 : BitVec 32 := Scalar.muli v7 c1_i32_1118
  let v1291 : BitVec 32 := Scalar.addi c0_i32_1119 v1290
  v1291.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x256, .bf16⟩
  | .hbm, ⟨2, _⟩ => ⟨S2x2048x4x64, .bf16⟩
  | .hbm, ⟨3, _⟩ => ⟨S2x2048x4x64, .bf16⟩
  | .hbm, ⟨4, _⟩ => ⟨S256x512, .bf16⟩
  | .hbm, ⟨5, _⟩ => ⟨S2x2048x512, .f32⟩
  | .hbm, ⟨6, _⟩ => ⟨S512x256, .f32⟩
  | .hbm, ⟨7, _⟩ => ⟨S2x2048x256, .f32⟩
  | .hbm, ⟨8, _⟩ => ⟨S2x2048x4x64, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S2048, .i32⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S1x2048, .i32⟩
  | .hbm, ⟨49, _⟩ => ⟨S2048x2048, .i32⟩
  | .hbm, ⟨50, _⟩ => ⟨S2048x2048, .i32⟩
  | .hbm, ⟨51, _⟩ => ⟨S2048x2048, .i1⟩
  | .hbm, ⟨52, _⟩ => ⟨S2x2048x4x64, .f32⟩
  | .hbm, ⟨53, _⟩ => ⟨S2x4x2048x2048, .f32⟩
  | .hbm, ⟨54, _⟩ => ⟨S_, .f32⟩
  | .hbm, ⟨55, _⟩ => ⟨S2x4x2048x2048, .f32⟩
  | .hbm, ⟨56, _⟩ => ⟨S2x4x2048x2048, .f32⟩
  | .hbm, ⟨57, _⟩ => ⟨S1x1x2048x2048, .i1⟩
  | .hbm, ⟨58, _⟩ => ⟨S_, .f32⟩
  | .hbm, ⟨59, _⟩ => ⟨S_, .f32⟩
  | .hbm, ⟨60, _⟩ => ⟨S2x4x2048x2048, .i1⟩
  | .hbm, ⟨61, _⟩ => ⟨S2x4x2048x2048, .f32⟩
  | .hbm, ⟨62, _⟩ => ⟨S2x4x2048x2048, .f32⟩
  | .hbm, ⟨63, _⟩ => ⟨S_, .f32⟩
  | .hbm, ⟨64, _⟩ => ⟨S2x4x2048, .f32⟩
  | .hbm, ⟨65, _⟩ => ⟨S2x4x2048x1, .f32⟩
  | .hbm, ⟨66, _⟩ => ⟨S2x4x2048x2048, .f32⟩
  | .hbm, ⟨67, _⟩ => ⟨S2x4x2048x2048, .f32⟩
  | .hbm, ⟨68, _⟩ => ⟨S2x4x2048x2048, .f32⟩
  | .hbm, ⟨69, _⟩ => ⟨S_, .i1⟩
  | .hbm, ⟨70, _⟩ => ⟨S2048, .i1⟩
  | .hbm, ⟨71, _⟩ => ⟨S1x1x2048x1, .i1⟩
  | .hbm, ⟨72, _⟩ => ⟨S_, .f32⟩
  | .hbm, ⟨73, _⟩ => ⟨S2x4x2048, .f32⟩
  | .hbm, ⟨74, _⟩ => ⟨S2x4x2048x1, .f32⟩
  | .hbm, ⟨75, _⟩ => ⟨S_, .f32⟩
  | .hbm, ⟨76, _⟩ => ⟨S_, .f32⟩
  | .hbm, ⟨77, _⟩ => ⟨S2x4x2048x1, .i1⟩
  | .hbm, ⟨78, _⟩ => ⟨S2x4x2048x1, .f32⟩
  | .hbm, ⟨79, _⟩ => ⟨S2x4x2048x1, .f32⟩
  | .hbm, ⟨80, _⟩ => ⟨S2x4x2048x2048, .f32⟩
  | .hbm, ⟨81, _⟩ => ⟨S2x4x2048x2048, .f32⟩
  | .hbm, ⟨82, _⟩ => ⟨S1x1x2048x1, .i1⟩
  | .hbm, ⟨83, _⟩ => ⟨S_, .f32⟩
  | .hbm, ⟨84, _⟩ => ⟨S_, .f32⟩
  | .hbm, ⟨85, _⟩ => ⟨S2x4x2048x2048, .i1⟩
  | .hbm, ⟨86, _⟩ => ⟨S2x4x2048x2048, .f32⟩
  | .hbm, ⟨87, _⟩ => ⟨S2x4x2048x2048, .f32⟩
  | .hbm, ⟨88, _⟩ => ⟨S2x2048x4x64, .f32⟩
  | .hbm, ⟨89, _⟩ => ⟨S2x4x64x2048, .f32⟩
  | .hbm, ⟨90, _⟩ => ⟨S2x2048x4x64, .f32⟩
  | .hbm, ⟨91, _⟩ => ⟨S2x2048x256, .f32⟩
  | .hbm, ⟨92, _⟩ => ⟨S256x512, .f32⟩
  | .hbm, ⟨93, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Common.lean ====
/-
  The ring: eight devices pass blocks of keys and values to both neighbours, four hops to the right and three to the left.
  This module names the pieces of the two exchange buffers, the transfers between them, the semaphore cells, what every
  landing hands over, and the levels the waits respect.

  Barrier cell of `c`: `nxt c` and `prv c` each signal one unit, `c` waits for two. The unit of `nxt c` hands `c` the
  landing pieces of `nxt c`'s right-going buffer, the unit of `prv c` those of `prv c`'s left-going buffer.
  Receive cell of a transfer `e` on `c`: the neighbour's copy adds one piece's credit and hands `c` the piece, holding the
  keys or values of the device it started from. Send cell of `e` on `c`: the copy adds one piece's credit and hands back
  the half of the source piece it read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.FamCut
public import Idealize.ShloMosaic.Lib.Exec.Geometry
public import Idealize.ShloMosaic.Lib.ValueIdxCore
public import Idealize.ShloMosaic.Lib.Tactic

@[expose] public section

set_option maxRecDepth 16384
set_option synthInstance.maxSize 4096

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The device whose block sits in slot `s` of the right-going buffer: `s` steps behind. -/
def bkR (s : Fin 5) (c : Dev nD) : Dev nD := ⟨(c.val + (8 - s.val)) % 8, Nat.mod_lt _ (by decide)⟩
/-- The device whose block sits in slot `s` of the left-going buffer: `s` steps ahead. -/
def bkL (s : Fin 4) (c : Dev nD) : Dev nD := ⟨(c.val + s.val) % 8, Nat.mod_lt _ (by decide)⟩

/-! ## Transfers and pieces -/

/-- A transfer: hop, keys or values, batch; right-going on the left, left-going on the right. -/
abbrev Tr : Type := (Fin 4 × Fin 2 × Fin 2) ⊕ (Fin 3 × Fin 2 × Fin 2)
/-- A piece of an exchange buffer: slot, keys or values, batch. -/
abbrev Pc : Type := (Fin 5 × Fin 2 × Fin 2) ⊕ (Fin 4 × Fin 2 × Fin 2)

def srcP : Tr → Pc
  | .inl (h, t, b) => .inl (h.castSucc, t, b)
  | .inr (h, t, b) => .inr (h.castSucc, t, b)
def dstP : Tr → Pc
  | .inl (h, t, b) => .inl (h.succ, t, b)
  | .inr (h, t, b) => .inr (h.succ, t, b)
def hop : Tr → ℕ
  | .inl (h, _, _) => h.val
  | .inr (h, _, _) => h.val
/-- The device a transfer goes to, and the one it comes from. -/
def nbr : Tr → Dev nD → Dev nD
  | .inl _, c => nxt c
  | .inr _, c => prv c
def nbi : Tr → Dev nD → Dev nD
  | .inl _, c => prv c
  | .inr _, c => nxt c
theorem nbr_nbi (e : Tr) (c : Dev nD) : nbr e (nbi e c) = c := by cases e; exacts [nxt_prv c, prv_nxt c]
theorem nbi_nbr (e : Tr) (c : Dev nD) : nbi e (nbr e c) = c := by cases e; exacts [prv_nxt c, nxt_prv c]

set_option backward.proofsInPublic true in
def sendQ : Tr → DmaSem sig
  | .inl (h, t, b) => (⟨6 + (4 * h.val + (2 * b.val + t.val)), by omega⟩ : Fin 62)
  | .inr (h, t, b) => (⟨38 + (4 * h.val + (2 * b.val + t.val)), by omega⟩ : Fin 62)
set_option backward.proofsInPublic true in
def recvQ : Tr → DmaSem sig
  | .inl (h, t, b) => (⟨22 + (4 * h.val + (2 * b.val + t.val)), by omega⟩ : Fin 62)
  | .inr (h, t, b) => (⟨50 + (4 * h.val + (2 * b.val + t.val)), by omega⟩ : Fin 62)

/-- The two cells of a transfer: send on the left, receive on the right. -/
abbrev Ck : Type := Tr ⊕ Tr
def ckQ : Ck → DmaSem sig
  | .inl e => sendQ e
  | .inr e => recvQ e

/-- Which transfer's cell a semaphore number is. -/
def decQ (q : DmaSem sig) : Option Ck :=
  let n : ℕ := q.val
  let part (k : ℕ) : Fin 2 × Fin 2 := (Fin.ofNat 2 k, Fin.ofNat 2 (k / 2))
  if n < 6 then none
  else if n < 22 then some (.inl (.inl (Fin.ofNat 4 ((n - 6) / 4), part (n - 6))))
  else if n < 38 then some (.inr (.inl (Fin.ofNat 4 ((n - 22) / 4), part (n - 22))))
  else if n < 50 then some (.inl (.inr (Fin.ofNat 3 ((n - 38) / 4), part (n - 38))))
  else some (.inr (.inr (Fin.ofNat 3 ((n - 50) / 4), part (n - 50))))

instance : DecidableEq Ck := inferInstance
instance : DecidableEq (Option Ck) := inferInstance
theorem decQ_ckQ (k : Ck) : decQ (ckQ k) = some k := by
  rcases k with (⟨h, t, b⟩ | ⟨h, t, b⟩) | (⟨h, t, b⟩ | ⟨h, t, b⟩) <;> revert h t b <;> decide
theorem ckQ_inj : Function.Injective ckQ := fun a b h => Option.some.inj (by rw [← decQ_ckQ a, ← decQ_ckQ b, h])
theorem decQ_stage (q : DmaSem sig) (h : q.val < 6) : decQ q = none := if_pos h

/-! ## The memrefs -/

abbrev rM : Memref sig .tc .vmem S5x2x2x256x256 .bf16 := Memref.whole cc0_scratch0
abbrev lM : Memref sig .tc .vmem S4x2x2x256x256 .bf16 := Memref.whole cc0_scratch1

theorem inbR (s : Fin 5) (t b : Fin 2) : ∀ a, (![s.val, t.val, b.val, 0, 0] : Fin 5 → ℕ) a + S1x1x1x256x256.size a ≤ S5x2x2x256x256.size a := by
  revert s t b; decide
theorem inbL (s : Fin 4) (t b : Fin 2) : ∀ a, (![s.val, t.val, b.val, 0, 0] : Fin 5 → ℕ) a + S1x1x1x256x256.size a ≤ S4x2x2x256x256.size a := by
  revert s t b; decide
abbrev rectR (s : Fin 5) (t b : Fin 2) : Rect S5x2x2x256x256 :=
  Rect.unit (s := S5x2x2x256x256) ![s.val, t.val, b.val, 0, 0] S1x1x1x256x256.size (inbR s t b)
abbrev rectL (s : Fin 4) (t b : Fin 2) : Rect S4x2x2x256x256 :=
  Rect.unit (s := S4x2x2x256x256) ![s.val, t.val, b.val, 0, 0] S1x1x1x256x256.size (inbL s t b)

/-- A piece as the kernel's copies name it. -/
abbrev pM : Pc → Memref sig .tc .vmem S256x256 .bf16
  | .inl (s, t, b) => (rM.slice (rectR s t b) (fun _ => rfl)).squeeze S256x256 squeezes_S1x1x1x256x256_S256x256
  | .inr (s, t, b) => (lM.slice (rectL s t b) (fun _ => rfl)).squeeze S256x256 squeezes_S1x1x1x256x256_S256x256

abbrev barS : Sem sig := (SemArray.scalar (sig.barrier 0 rfl) : Sems sig S_).sem
abbrev barCell (c : Dev nD) : GSem nD τ sig := ((c : Thread nD τ), .reg barS)
abbrev sendCell (e : Tr) (c : Dev nD) : GSem nD τ sig := ((c : Thread nD τ), .dma (sendQ e))
abbrev recvCell (e : Tr) (c : Dev nD) : GSem nD τ sig := ((c : Thread nD τ), .dma (recvQ e))

/-- All cells of one device: the barrier, and the two of every transfer. -/
abbrev csem : Option Ck → SemLoc sig
  | none => .reg barS
  | some k => .dma (ckQ k)
abbrev osem : Ck → SemLoc sig := fun k => .dma (ckQ k)
abbrev kcell (ck : Dev nD × Option Ck) : GSem nD τ sig := ((ck.1 : Thread nD τ), csem ck.2)

abbrev N : ℕ := (pM (.inl (0, 0, 0))).view.dmaCredit
theorem N_pos : 0 < N := View.dmaCredit_pos _ (by decide)
theorem credit_eq (p : Pc) : (pM p).view.dmaCredit = N := by
  rcases p with ⟨s, t, b⟩ | ⟨s, t, b⟩ <;> rfl

end Cert.KernelIdealRing

end
-- ==== Proof.Sched.lean ====
/-
  What every cell's round hands over (the schedule), what a device owes at launch, and the levels of the cells.
-/
module

public import proofs.«01_k».proof.Proof.Common
public import Idealize.ShloMosaic.Lib.VecWindow

@[expose] public section

set_option maxRecDepth 16384
set_option synthInstance.maxSize 4096

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## A list of assertions held together -/

section Lists
variable {A : Type}

/-- `Φ` at every member of the list. -/
def LL (Φ : A → sProp 𝕄) : List A → sProp 𝕄
  | [] => iprop(emp)
  | a :: l => iprop(Φ a ∗ LL Φ l)

theorem LL_nil (Φ : A → sProp 𝕄) : LL Φ [] = iprop(emp) := rfl
theorem LL_cons (Φ : A → sProp 𝕄) (a : A) (l : List A) : LL Φ (a :: l) = iprop(Φ a ∗ LL Φ l) := rfl

theorem sep_left_comm_eq (X Y Z : sProp 𝕄) : iprop(X ∗ Y ∗ Z) = iprop(Y ∗ X ∗ Z) :=
  BI.Entails.antisymm
    (show iprop(X ∗ Y ∗ Z) ⊢ iprop(Y ∗ X ∗ Z) from by
      iintro ⟨H1, H2, H3⟩; isplitl [H2]; · iexact H2
      isplitl [H1] <;> iassumption)
    (show iprop(Y ∗ X ∗ Z) ⊢ iprop(X ∗ Y ∗ Z) from by
      iintro ⟨H1, H2, H3⟩; isplitl [H2]; · iexact H2
      isplitl [H1] <;> iassumption)

/-- The order of the list does not matter. -/
theorem LL_perm (Φ : A → sProp 𝕄) {l l' : List A} (h : l.Perm l') : LL Φ l = LL Φ l' := by
  induction h with
  | nil => rfl
  | cons a _ ih => rw [LL_cons, LL_cons, ih]
  | swap a b l => rw [LL_cons, LL_cons, LL_cons, LL_cons, sep_left_comm_eq]
  | trans _ _ ih1 ih2 => rw [ih1, ih2]

/-- A member of the list, and the others. -/
theorem LL_erase [DecidableEq A] (Φ : A → sProp 𝕄) {l : List A} {a : A} (h : a ∈ l) : LL Φ l = iprop(Φ a ∗ LL Φ (l.erase a)) :=
  LL_perm Φ (List.perm_cons_erase h)

theorem LL_mono {Φ Ψ : A → sProp 𝕄} (h : ∀ a, Φ a ⊢ Ψ a) : ∀ l : List A, LL Φ l ⊢ LL Ψ l
  | [] => BI.Entails.refl _
  | a :: l => BI.sep_mono (h a) (LL_mono h l)

theorem LL_map {B : Type} (Φ : A → sProp 𝕄) (f : B → A) : ∀ l : List B, LL Φ (l.map f) = LL (fun b => Φ (f b)) l
  | [] => rfl
  | b :: l => by rw [List.map_cons, LL_cons, LL_cons, LL_map Φ f l]

/-- Two assertions at every member are the two lists. -/
theorem LL_sep (Φ Ψ : A → sProp 𝕄) : ∀ l : List A, LL (fun a => iprop(Φ a ∗ Ψ a)) l ⊢ iprop(LL Φ l ∗ LL Ψ l)
  | [] => by rw [LL_nil, LL_nil, LL_nil]; iintro -; isplitr <;> iempintro
  | a :: l => by
    rw [LL_cons, LL_cons, LL_cons]
    iintro ⟨⟨H1, H2⟩, H3⟩
    ihave H := (LL_sep Φ Ψ l) $$ H3
    icases H with ⟨H3, H4⟩
    isplitl [H1 H3]
    · isplitl [H1] <;> iassumption
    · isplitl [H2] <;> iassumption
theorem LL_join (Φ Ψ : A → sProp 𝕄) : ∀ l : List A, iprop(LL Φ l ∗ LL Ψ l) ⊢ LL (fun a => iprop(Φ a ∗ Ψ a)) l
  | [] => by rw [LL_nil, LL_nil, LL_nil]; iintro -; iempintro
  | a :: l => by
    rw [LL_cons, LL_cons, LL_cons]
    iintro ⟨⟨H1, H3⟩, ⟨H2, H4⟩⟩
    isplitl [H1 H2]
    · isplitl [H1] <;> iassumption
    iapply (LL_join Φ Ψ l); isplitl [H3] <;> iassumption

theorem bigSep_toFinset [DecidableEq A] (Φ : A → sProp 𝕄) : ∀ l : List A, l.Nodup → bigSep l.toFinset Φ = LL Φ l
  | [], _ => by rw [List.toFinset_nil, LL_nil, bigSep_empty]; rfl
  | a :: l, h => by
    obtain ⟨ha, hl⟩ := List.nodup_cons.mp h
    rw [List.toFinset_cons, bigSep_insert (fun h => ha (List.mem_toFinset.mp h)), bigSep_toFinset Φ l hl, LL_cons]; rfl

/-- All of a finite type, listed in any order. -/
theorem LL_univ [Fintype A] [DecidableEq A] (Φ : A → sProp 𝕄) (l : List A) (hl : l.Nodup) (h : ∀ a, a ∈ l) : bigSep Finset.univ Φ = LL Φ l := by
  rw [← bigSep_toFinset Φ l hl]
  exact congrArg (fun s => bigSep s Φ) (Finset.eq_univ_iff_forall.mpr fun a => List.mem_toFinset.mpr (h a)).symm

instance LL_storable (Φ : A → sProp 𝕄) [∀ a, BI.Storable (upEmb : UEmb _ 𝕄) (Φ a)] : ∀ l : List A, BI.Storable (upEmb : UEmb _ 𝕄) (LL Φ l)
  | [] => by rw [LL_nil]; infer_instance
  | a :: l => by rw [LL_cons]; have := LL_storable Φ l; infer_instance

end Lists

/-! ## Contents -/

/-- The staged keys and values of a device. -/
def kstg (c : Dev nD) : (cc0_stg2_0 : Ref sig .tc).ty.Contents (Elt F) :=
  (win0_2.blk (0 : Fin 1)).view.read (Elt F) ((s₀ m ρ).mem ((c : Thread nD τ).loc main_arg2))
def vstg (c : Dev nD) : (cc0_stg3_0 : Ref sig .tc).ty.Contents (Elt F) :=
  (win0_3.blk (0 : Fin 1)).view.read (Elt F) ((s₀ m ρ).mem ((c : Thread nD τ).loc main_arg3))

/-- Keys (`t = 0`) or values (`t = 1`) of a device with the heads side by side. -/
def kvFull (t : Fin 2) (c : Dev nD) : FVec F S2x256x256 .bf16 := if t = 0 then k0_pay1 (kstg m ρ c) else k0_pay2 (vstg m ρ c)
/-- Batch `b` of them: what one transfer carries. -/
def kvAt (t b : Fin 2) (c : Dev nD) : S256x256.Idx → Elt F .bf16 := fun j => kvFull m ρ t c (ValueIdx.ix3 b (j 0) (j 1))

/-- What a piece holds once filled. -/
def xP : Pc → Dev nD → S256x256.Idx → Elt F .bf16
  | .inl (s, t, b), c => kvAt m ρ t b (bkR s c)
  | .inr (s, t, b), c => kvAt m ρ t b (bkL s c)

theorem bkR_succ (h : Fin 4) (c : Dev nD) : bkR h.succ (nxt c) = bkR h.castSucc c := by revert h c; decide
theorem bkL_succ (h : Fin 3) (c : Dev nD) : bkL h.succ (prv c) = bkL h.castSucc c := by revert h c; decide
theorem xP_dst (e : Tr) (c : Dev nD) : xP m ρ (dstP e) (nbr e c) = xP m ρ (srcP e) c := by
  rcases e with ⟨h, t, b⟩ | ⟨h, t, b⟩
  · exact congrArg (kvAt m ρ t b) (bkR_succ h c)
  · exact congrArg (kvAt m ρ t b) (bkL_succ h c)

/-- A piece held filled; a piece held at whatever it holds. -/
def pc (q : PosShare TreeShare) (p : Pc) (c : Dev nD) : sProp 𝕄 :=
  (pM p).view.loc (c : Thread nD τ) ↦[(pM p).view.set]{q} (pM p).view.rep (xP m ρ p c)
def land (p : Pc) (c : Dev nD) : sProp 𝕄 :=
  iprop(∃ f : Buf (Elt F) ((pM p).view.loc (c : Thread nD τ)), (pM p).view.loc (c : Thread nD τ) ↦[(pM p).view.set]{fullShare} f)

instance pc_storable (q) (p : Pc) (c : Dev nD) : BI.Storable (upEmb : UEmb _ 𝕄) (pc (F := F) m ρ q p c) := by unfold pc; infer_instance
instance land_storable (p : Pc) (c : Dev nD) : BI.Storable (upEmb : UEmb _ 𝕄) (land (F := F) p c) := by unfold land; infer_instance

/-- The half of a piece a copy out of it reads, and the half the device keeps meanwhile. -/
abbrev shL : PosShare TreeShare := (fullShare : PosShare TreeShare).left
abbrev shR : PosShare TreeShare := (fullShare : PosShare TreeShare).right

/-- A full piece is its two halves. -/
theorem pc_halves (p : Pc) (c : Dev nD) : pc m ρ fullShare p c = iprop(pc m ρ shL p c ∗ pc m ρ shR p c) := by
  unfold pc; exact BI.Entails.antisymm (pointsTo_share (PosShare.mem_left_op_right fullShare)).1 (pointsTo_share (PosShare.mem_left_op_right fullShare)).2

/-! ## The schedule -/

def edgesR : List Tr := (List.finRange 4).flatMap fun h => [.inl (h, 0, 0), .inl (h, 1, 0), .inl (h, 0, 1), .inl (h, 1, 1)]
def edgesL : List Tr := (List.finRange 3).flatMap fun h => [.inr (h, 0, 0), .inr (h, 1, 0), .inr (h, 0, 1), .inr (h, 1, 1)]

/-- What `nxt c` hands `c` (duty `true`) and what `prv c` hands `c` (duty `false`): their landing pieces. -/
def barPay (c : Dev nD) (d : Bool) : sProp 𝕄 :=
  if d then LL (fun e => land (dstP e) (nxt c)) edgesR else LL (fun e => land (dstP e) (prv c)) edgesL
def xferPay (c : Dev nD) : Option Ck → sProp 𝕄
  | none => iprop(emp)
  | some (.inl e) => pc m ρ shL (srcP e) c
  | some (.inr e) => pc m ρ fullShare (dstP e) c

/-- A cell of this protocol. -/
def dutiesOf : SemLoc sig → Finset Bool
  | .reg s => if s = barS then Finset.univ else ∅
  | .dma q => if 6 ≤ q.val then {false} else ∅

def ringRd : Rounds.Schedule (GSem nD τ sig) Bool 𝕄 where
  duties g r := if r = 0 ∧ g.1.2 = .tc then dutiesOf g.2 else ∅
  unitless _ := False
  amount g _ _ := match g.2 with | .reg _ => 1 | .dma _ => N
  payload g _ d := match g.2 with | .reg _ => barPay g.1.1 d | .dma q => xferPay m ρ g.1.1 (decQ q)
  amount_pos g _ _ _ := by
    rcases g with ⟨x, s | q⟩
    · exact Nat.one_pos
    · exact N_pos

instance barPay_storable (c : Dev nD) (d : Bool) : BI.Storable (upEmb : UEmb _ 𝕄) (barPay (F := F) c d) := by
  unfold barPay; split <;> infer_instance
instance xferPay_storable (c : Dev nD) (o : Option Ck) : BI.Storable (upEmb : UEmb _ 𝕄) (xferPay (F := F) m ρ c o) := by
  rcases o with _ | e | e <;> unfold xferPay <;> infer_instance
instance ringRd_payload_storable (g : GSem nD τ sig) (r : ℕ) (d : Bool) :
    BI.Storable (upEmb : UEmb _ 𝕄) ((ringRd (F := F) m ρ).payload g r d) := by
  rcases g with ⟨x, s | q⟩
  · exact barPay_storable _ _
  · exact xferPay_storable _ _ _ _

section Sched
variable (c : Dev nD)

theorem ckQ_ge (k : Ck) : 6 ≤ (ckQ k).val := by
  rcases k with (⟨h, t, b⟩ | ⟨h, t, b⟩) | (⟨h, t, b⟩ | ⟨h, t, b⟩)
  · exact Nat.le_add_right 6 _
  · exact Nat.le_trans (by decide) (Nat.le_add_right 38 _)
  · exact Nat.le_trans (by decide) (Nat.le_add_right 22 _)
  · exact Nat.le_trans (by decide) (Nat.le_add_right 50 _)

theorem duties_bar : (ringRd (F := F) m ρ).duties (barCell c) 0 = Finset.univ := by
  dsimp only [ringRd]; rw [if_pos ⟨rfl, rfl⟩]; unfold dutiesOf; exact if_pos rfl
theorem duties_dma (k : Ck) : (ringRd (F := F) m ρ).duties (kcell (c, some k)) 0 = {false} := by
  dsimp only [ringRd]; rw [if_pos ⟨rfl, rfl⟩]; unfold dutiesOf; exact if_pos (ckQ_ge k)
theorem duties_later (g : GSem nD τ sig) : ∀ r, 1 ≤ r → (ringRd (F := F) m ρ).duties g r = ∅ :=
  fun r hr => by dsimp only [ringRd]; rw [if_neg fun h => by omega]

theorem amount_bar (d : Bool) : (ringRd (F := F) m ρ).amount (barCell c) 0 d = 1 := rfl
theorem amount_dma (k : Ck) (d : Bool) : (ringRd (F := F) m ρ).amount (kcell (c, some k)) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (k : Ck) : (ringRd (F := F) m ρ).expect (kcell (c, some k)) 0 = N := by
  unfold Schedule.expect Schedule.amountOf; rw [duties_dma, Finset.sum_singleton, amount_dma]

theorem payload_bar (d : Bool) : (ringRd (F := F) m ρ).payload (barCell c) 0 d = barPay c d := rfl
theorem payload_dma (k : Ck) (d : Bool) : (ringRd (F := F) m ρ).payload (kcell (c, some k)) 0 d = xferPay m ρ c (some k) :=
  congrArg (xferPay m ρ c) (decQ_ckQ k)

theorem rest_bar : bigSep ((ringRd (F := F) m ρ).duties (barCell c) 0 \ ∅) (fun d => (ringRd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_dma (k : Ck) : bigSep ((ringRd (F := F) m ρ).duties (kcell (c, some k)) 0 \ ∅) (fun d => (ringRd (F := F) m ρ).payload (kcell (c, some k)) 0 d)
    = xferPay m ρ c (some k) := by
  rw [Finset.sdiff_empty, duties_dma, bigSep_singleton, payload_dma]

end Sched

/-! ## What each core owes; the levels -/

/-- The receive credits of the transfers not yet started, the next one outermost. -/
def owedL (c : Dev nD) : List Tr → CellTallies nD τ sig Unit
  | [] => 0
  | e :: U => owedL c U + tallyAt (recvCell e (nbr e c)) () N

/-- The kernel's order of the transfers: hop 0 to both sides piece by piece, then each hop right, left. -/
def sendOrder : List Tr :=
  [.inl (0, 0, 0), .inr (0, 0, 0), .inl (0, 1, 0), .inr (0, 1, 0), .inl (0, 0, 1), .inr (0, 0, 1), .inl (0, 1, 1), .inr (0, 1, 1),
   .inl (1, 0, 0), .inl (1, 1, 0), .inl (1, 0, 1), .inl (1, 1, 1), .inr (1, 0, 0), .inr (1, 1, 0), .inr (1, 0, 1), .inr (1, 1, 1),
   .inl (2, 0, 0), .inl (2, 1, 0), .inl (2, 0, 1), .inl (2, 1, 1), .inr (2, 0, 0), .inr (2, 1, 0), .inr (2, 0, 1), .inr (2, 1, 1),
   .inl (3, 0, 0), .inl (3, 1, 0), .inl (3, 0, 1), .inl (3, 1, 1)]
/-- The order of the receive waits: each hop right, left. -/
def recvOrder : List Tr :=
  [.inl (0, 0, 0), .inl (0, 1, 0), .inl (0, 0, 1), .inl (0, 1, 1), .inr (0, 0, 0), .inr (0, 1, 0), .inr (0, 0, 1), .inr (0, 1, 1),
   .inl (1, 0, 0), .inl (1, 1, 0), .inl (1, 0, 1), .inl (1, 1, 1), .inr (1, 0, 0), .inr (1, 1, 0), .inr (1, 0, 1), .inr (1, 1, 1),
   .inl (2, 0, 0), .inl (2, 1, 0), .inl (2, 0, 1), .inl (2, 1, 1), .inr (2, 0, 0), .inr (2, 1, 0), .inr (2, 0, 1), .inr (2, 1, 1),
   .inl (3, 0, 0), .inl (3, 1, 0), .inl (3, 0, 1), .inl (3, 1, 1)]

instance : DecidableEq Tr := inferInstance
instance : DecidableEq Pc := inferInstance
instance : Fintype Tr := inferInstance
instance : Fintype Pc := inferInstance
instance : Fintype Ck := inferInstance

theorem sendOrder_nodup : sendOrder.Nodup := by decide
instance decMemTr (e : Tr) (l : List Tr) : Decidable (e ∈ l) := @List.instDecidableMemOfLawfulBEq Tr instBEqOfDecidableEq inferInstance e l
theorem sendOrder_all (e : Tr) : e ∈ sendOrder := by
  rcases e with ⟨h, t, b⟩ | ⟨h, t, b⟩ <;> revert h t b <;> decide
theorem recvOrder_nodup : recvOrder.Nodup := by decide
theorem recvOrder_all (e : Tr) : e ∈ recvOrder := by
  rcases e with ⟨h, t, b⟩ | ⟨h, t, b⟩ <;> revert h t b <;> decide
theorem edges_perm : (edgesR ++ edgesL).Perm sendOrder := by decide

/-- What a device owes after its two signals, after the first, and at launch. -/
def O₂ (c : Dev nD) : CellTallies nD τ sig Unit := owedL c sendOrder
def O₁ (c : Dev nD) : CellTallies nD τ sig Unit := O₂ c + tallyAt (barCell (nxt c)) () 1
def O₀ (c : Dev nD) : CellTallies nD τ sig Unit := O₁ c + tallyAt (barCell (prv c)) () 1

def L (g : GSem nD τ sig) : Finset Unit := if g.1.2 = .tc then {()} else ∅
/-- A receive cell's level is above every cell of an earlier hop; the barrier is below them all; the rest at zero. -/
def lvQ : Option Ck → ℕ
  | some (.inr e) => 2 + hop e
  | _ => 0
def lv (g : GSem nD τ sig) (_ : Unit) : ℕ := match g.2 with
  | .reg _ => 1
  | .dma q => lvQ (decQ q)

theorem L_of_ne (g : GSem nD τ sig) (h : g.1.2 ≠ .tc) : L g = ∅ := if_neg h
theorem L_tc (c : Dev nD) (sm : SemLoc sig) : L ((c : Thread nD τ), sm) = {()} := if_pos rfl
theorem lv_recv (e : Tr) (c : Dev nD) : lv (recvCell e c) () = 2 + hop e := congrArg lvQ (decQ_ckQ (.inr e))

theorem owedL_pos {c : Dev nD} {g : GSem nD τ sig} {u : Unit} : ∀ {U : List Tr}, 0 < owedL c U g u → ∃ e ∈ U, g = recvCell e (nbr e c)
  | [], h => absurd h (Nat.lt_irrefl 0)
  | e :: U, h => by
    unfold owedL at h
    rw [Pi.add_apply, Finsupp.add_apply, tallyAt_apply] at h
    by_cases hg : g = recvCell e (nbr e c) ∧ u = ()
    · exact ⟨e, List.mem_cons_self .., hg.1⟩
    · rw [if_neg hg, Nat.add_zero] at h
      obtain ⟨e', he', h'⟩ := owedL_pos h
      exact ⟨e', List.mem_cons_of_mem _ he', h'⟩

theorem O₀_pos {c : Dev nD} {g : GSem nD τ sig} {u : Unit} (h : 0 < O₀ c g u) :
    (∃ e ∈ sendOrder, g = recvCell e (nbr e c)) ∨ g = barCell (nxt c) ∨ g = barCell (prv c) := by
  unfold O₀ O₁ at h
  rw [Pi.add_apply, Finsupp.add_apply, Pi.add_apply, Finsupp.add_apply, tallyAt_apply, tallyAt_apply] at h
  by_cases h1 : g = barCell (prv c) ∧ u = ()
  · exact .inr (.inr h1.1)
  by_cases h2 : g = barCell (nxt c) ∧ u = ()
  · exact .inr (.inl h2.1)
  rw [if_neg h1, if_neg h2] at h
  exact .inl (owedL_pos (U := sendOrder) (u := u) (show 0 < O₂ c g u from h))

/-- A wait on a cell of level at most `n`, owing only cells of a device above `n`. -/
theorem mayWait_of (c : Dev nD) (sm : SemLoc sig) (n : ℕ) (O : CellTallies nD τ sig Unit)
    (hn : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait_of c _ 0 _ (Nat.le_of_eq (congrArg lvQ (decQ_stage q hq))) fun g u hg => ?_
    rcases O₀_pos hg with ⟨e, -, rfl⟩ | rfl | rfl
    · exact ⟨rfl, by rw [lv_recv]; omega⟩
    · exact ⟨rfl, Nat.one_pos⟩
    · exact ⟨rfl, Nat.one_pos⟩
  · rw [MayWait_zero]; iintro -; iempintro

/-- At its barrier wait a device owes receive credits only. -/
theorem mayWait_bar (c : Dev nD) : (levAts L lv : sProp 𝕄) ⊢ MayWait (c : Thread nD τ) (.reg barS) () (O₂ c) :=
  mayWait_of c _ 1 _ (Nat.le_refl _) fun g u hg => by
    obtain ⟨e, -, rfl⟩ := owedL_pos hg
    exact ⟨rfl, by rw [lv_recv]; omega⟩

/-- At a receive wait of hop `h` the transfers not yet started are all of later hops. -/
theorem mayWait_recv (c : Dev nD) (e : Tr) (U : List Tr) (hU : ∀ e' ∈ U, hop e < hop e') :
    (levAts L lv : sProp 𝕄) ⊢ MayWait (c : Thread nD τ) (.dma (recvQ e)) () (owedL c U) :=
  mayWait_of c _ (2 + hop e) _ (Nat.le_of_eq (lv_recv e c)) fun g u hg => by
    obtain ⟨e', he', rfl⟩ := owedL_pos hg
    exact ⟨rfl, by rw [lv_recv]; have := hU e' he'; omega⟩

end Cert.KernelIdealRing

end
-- ==== Proof.Steps.lean ====
/-
  The state a device holds between two operations of the kernel, as a position in the list of its exchange operations,
  and one lemma per kind of operation: it moves the state one position on.
-/
module

public import proofs.«01_k».proof.Proof.Sched

@[expose] public section

set_option maxRecDepth 16384
set_option synthInstance.maxSize 4096

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The exchange operations in program order -/

/-- Wait for a landing; start a copy; wait for a copy's source. -/
inductive Op where
  | recv (e : Tr)
  | send (e : Tr)
  | back (e : Tr)

/-- Four pieces of one hop: keys and values of batch 0, then of batch 1. -/
def parts : List (Fin 2 × Fin 2) := [(0, 0), (1, 0), (0, 1), (1, 1)]
def hopR (h : Fin 4) : List Tr := parts.map fun p => .inl (h, p.1, p.2)
def hopL (h : Fin 3) : List Tr := parts.map fun p => .inr (h, p.1, p.2)

def opsOf (l : List Tr) (l' : List Tr) : List Op := (l.zip l').flatMap fun p => [.recv p.1, .send p.2]
def trace : List Op :=
  (parts.flatMap fun p => [.send (.inl (0, p.1, p.2)), .send (.inr (0, p.1, p.2))])
    ++ opsOf (hopR 0) (hopR 1) ++ opsOf (hopL 0) (hopL 1)
    ++ opsOf (hopR 1) (hopR 2) ++ opsOf (hopL 1) (hopL 2)
    ++ opsOf (hopR 2) (hopR 3) ++ (hopL 2).map .recv
    ++ (hopR 3).map .recv
    ++ ((List.finRange 4).flatMap hopR).map .back ++ ((List.finRange 3).flatMap hopL).map .back

/-- Transfers not started, landings awaited, pieces held full, copies running, cells closed. -/
structure Stg where
  U : List Tr
  Wt : List Tr
  Pf : List Pc
  Fl : List Tr
  D : List Ck

/-- A list without the first occurrence of a member. -/
def rm {A : Type} [DecidableEq A] (a : A) : List A → List A
  | [] => []
  | b :: l => if b = a then l else b :: rm a l
def has {A : Type} [DecidableEq A] (a : A) (l : List A) : Bool := l.any fun b => decide (b = a)

theorem has_mem {A : Type} [DecidableEq A] {a : A} {l : List A} (h : has a l = true) : a ∈ l := by
  obtain ⟨b, hb, h⟩ := List.any_eq_true.mp h
  exact of_decide_eq_true h ▸ hb
theorem perm_rm {A : Type} [DecidableEq A] {a : A} : ∀ {l : List A}, a ∈ l → l.Perm (a :: rm a l)
  | [], h => absurd h (List.not_mem_nil)
  | b :: l, h => by
    unfold rm
    by_cases hb : b = a
    · rw [if_pos hb, hb]
    · rw [if_neg hb]
      rcases List.mem_cons.mp h with h | h
      · exact absurd h.symm hb
      · exact ((perm_rm h).cons b).trans (List.Perm.swap a b _)
theorem LL_rm {A : Type} [DecidableEq A] (Φ : A → sProp 𝕄) {a : A} {l : List A} (h : has a l = true) : LL Φ l = iprop(Φ a ∗ LL Φ (rm a l)) :=
  LL_perm Φ (perm_rm (has_mem h))

def Stg.step (s : Stg) : Op → Stg
  | .recv e => ⟨s.U, rm e s.Wt, dstP e :: s.Pf, s.Fl, .inr e :: s.D⟩
  | .send e => ⟨s.U.tail, s.Wt, rm (srcP e) s.Pf, e :: s.Fl, s.D⟩
  | .back e => ⟨s.U, s.Wt, srcP e :: s.Pf, rm e s.Fl, .inl e :: s.D⟩
def Stg.ok (s : Stg) : Op → Bool
  | .recv e => has e s.Wt && s.U.all fun e' => decide (hop e < hop e')
  | .send e => decide (s.U.head? = some e) && has (srcP e) s.Pf
  | .back e => has e s.Fl && s.U.isEmpty

def stg0 : Stg := ⟨sendOrder, recvOrder, (parts.flatMap fun p => [.inl (0, p.1, p.2), .inr (0, p.1, p.2)]), [], []⟩
/-- The state after the first `n` operations. -/
def stgAt (n : ℕ) : Stg := (trace.take n).foldl Stg.step stg0
/-- Operation `n` of the list is `o` and its side conditions hold. -/
def okAt (n : ℕ) (o : Op) : Bool := (stgAt n).ok o

/-! ## What a device holds -/

section State
variable (K : Dev nD × Option Ck → ℕ)

/-- Every cell's invariant, and that every cell has reached its round. -/
def records : sProp 𝕄 :=
  iprop((bigSep Finset.univ fun ck : Dev nD × Option Ck => cellInv ER (ringRd m ρ) (K ck) (kcell ck))
    ∗ bigSep Finset.univ fun ck : Dev nD × Option Ck => reached ER (kcell ck) 0)

instance records_persistent : BI.Persistent (records m ρ K) := by unfold records; infer_instance

theorem inv_elim (ck : Dev nD × Option Ck) :
    (bigSep Finset.univ fun ck : Dev nD × Option Ck => (cellInv ER (ringRd m ρ) (K ck) (kcell ck) : sProp 𝕄)) ⊢ cellInv ER (ringRd m ρ) (K ck) (kcell ck) :=
  bigSep_elim (Finset.mem_univ ck)
theorem reached_elim (ck : Dev nD × Option Ck) :
    (bigSep Finset.univ fun ck : Dev nD × Option Ck => (reached ER (kcell ck) 0 : sProp 𝕄)) ⊢ reached ER (kcell ck) 0 :=
  bigSep_elim (Finset.mem_univ ck)
theorem inv_at (ck : Dev nD × Option Ck) : records m ρ K ⊢ cellInv ER (ringRd m ρ) (K ck) (kcell ck) := by
  unfold records; iintro ⟨H, -⟩; iapply (inv_elim m ρ K ck); iexact H
theorem reached_at (ck : Dev nD × Option Ck) : records m ρ K ⊢ reached ER (kcell ck) 0 := by
  unfold records; iintro ⟨-, H⟩; iapply (reached_elim (F := F) ck); iexact H

variable (c : Dev nD)

/-- What a transfer not yet started needs besides its landing piece. -/
def sendTok (e : Tr) : sProp 𝕄 :=
  iprop(dutyTok ER (sendCell e c) 0 false ∗ dutyTok ER (recvCell e (nbr e c)) 0 false ∗ atPos ER (sendCell e c) 0 ∅ 0)
def unsent (e : Tr) : sProp 𝕄 := iprop(sendTok c e ∗ land (dstP e) (nbr e c))
def waitR (e : Tr) : sProp 𝕄 := iprop(cred (tallyAt (recvCell e c) () N) ∗ atPos ER (recvCell e c) 0 ∅ 0)
def fly (e : Tr) : sProp 𝕄 := iprop(cred (tallyAt (sendCell e c) () N) ∗ atPos ER (sendCell e c) 0 ∅ 0 ∗ pc m ρ shR (srcP e) c)
def closed (k : Ck) : sProp 𝕄 := semVal (kcell (c, some k)) 0
/-- The windows' staging buffers: the five operands' contents, and what the result's holds. -/
def wins (X : (b : Ref sig .tc) → b.ty.Contents (Elt F)) : sProp 𝕄 :=
  iprop((((c : Thread nD τ).loc cc0_stg0_0) ↦{fullShare} X cc0_stg0_0) ∗ (((c : Thread nD τ).loc cc0_stg1_0) ↦{fullShare} X cc0_stg1_0)
    ∗ (((c : Thread nD τ).loc cc0_stg2_0) ↦{fullShare} X cc0_stg2_0) ∗ (((c : Thread nD τ).loc cc0_stg3_0) ↦{fullShare} X cc0_stg3_0)
    ∗ (((c : Thread nD τ).loc cc0_stg4_0) ↦{fullShare} X cc0_stg4_0))

def owesU (U : List Tr) : sProp 𝕄 := iprop(∃ W, owes (c : Thread nD τ) (owedL c U) W)

/-- The exchange's state. -/
def Ex (s : Stg) : sProp 𝕄 :=
  iprop(owesU c s.U ∗ LL (unsent c) s.U ∗ LL (waitR c) s.Wt ∗ LL (fun p => pc m ρ fullShare p c) s.Pf ∗ LL (fly m ρ c) s.Fl ∗ LL (closed c) s.D)

abbrev 𝒱₀ : Variants := Variants.none

/-- The program's execution from here on reaches `Q`. -/
abbrev W {α : Type} (p : Prog (TpuEff nD τ sig (Elt F) Λ₀ .tc) α) (Q : α → sProp 𝕄) : sProp 𝕄 :=
  wp frame (wpE (defs₀ (F := F)) 𝒱₀ (c : Thread nD τ) none) Set.univ p Q

theorem xferPay_send (e : Tr) : xferPay m ρ c (some (.inl e)) = pc m ρ shL (srcP e) c := rfl
theorem xferPay_recv (e : Tr) : xferPay m ρ c (some (.inr e)) = pc m ρ fullShare (dstP e) c := rfl

/-- A wait on a send or receive cell: the cell's payload, and the cell closed. -/
theorem wait_cell {α : Type} {Q : α → sProp 𝕄} {k : PUnit → Prog (TpuEff nD τ sig (Elt F) Λ₀ .tc) α}
    (x : Ck) (q : DmaSem sig) (hq : q = ckQ x) (O : CellTallies nD τ sig Unit) (Wt : Waits sig Unit)
    {sp sp' : Space} {src : Memref sig .tc sp S256x256 .bf16} {dst : Memref sig .tc sp' S256x256 .bf16} {hsrc : src.view.WordExact} {hdst : dst.view.WordExact}
    (hN : dst.view.dmaCredit = N) :
    iprop(records m ρ K ∗ cred (tallyAt (kcell (c, some x)) () N) ∗ owes (c : Thread nD τ) O Wt
        ∗ MayWait (c : Thread nD τ) (.dma (ckQ x)) () O ∗ atPos ER (kcell (c, some x)) 0 ∅ 0)
      ⊢ iprop(((owes (c : Thread nD τ) O (insert (SemLoc.dma (ckQ x), ()) Wt) ∗ closed c x ∗ xferPay m ρ c (some x)) -∗ W c (k ⟨⟩) Q)
          -∗ W c (.op (.waitDma2 q src dst hsrc hdst) k) Q) := by
  subst hq
  iintro ⟨#HR, Hc, HO, HM, Hat⟩ Hk
  ihave #HI := (inv_at m ρ K (c, some x)) $$ HR
  iapply (Rounds.wp_wait_rest_token 𝒱₀ ER (ringRd m ρ) (c : Thread nD τ) none (κ := K (c, some x))
      (wpE_waitDma2_eq 𝒱₀ (c : Thread nD τ) none Set.univ) (Set.mem_univ _) () (O := O) (W := Wt) (R := 0) (m := 0) (T := ∅)
      (by rw [Nat.zero_add, hN]; exact (expect_dma m ρ c x).symm)) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (ringRd m ρ) (Set.mem_univ (K (c, some x))) (fun h => h) (R := 0 + 1) (duties_later m ρ (kcell (c, some x)))) $$ [Hat] with Hz
  · isplitr; · iexact HI
    iexact Hat
  iapply Hk
  isplitl [HO]; · iexact HO
  isplitl [Hz]; · unfold closed; iexact Hz
  iapply (Entails.of_eq (rest_dma m ρ c x)); iexact Hpay

/-- A landing awaited: the piece, full. -/
theorem recv_step {α : Type} {Q : α → sProp 𝕄} {k : PUnit → Prog (TpuEff nD τ sig (Elt F) Λ₀ .tc) α}
    (s : Stg) (e : Tr) (hs : s.ok (.recv e) = true) (q : DmaSem sig) (hq : q = recvQ e)
    {sp sp' : Space} {src : Memref sig .tc sp S256x256 .bf16} {dst : Memref sig .tc sp' S256x256 .bf16} {hsrc : src.view.WordExact} {hdst : dst.view.WordExact}
    (hN : dst.view.dmaCredit = N) :
    iprop(records m ρ K ∗ levAts L lv ∗ Ex m ρ c s)
      ⊢ iprop((Ex m ρ c (s.step (.recv e)) -∗ W c (k ⟨⟩) Q) -∗ W c (.op (.waitDma2 q src dst hsrc hdst) k) Q) := by
  obtain ⟨h1, h2⟩ := Bool.and_eq_true_iff.mp hs
  have h2' : ∀ e' ∈ s.U, hop e < hop e' := fun e' he' => of_decide_eq_true (List.all_eq_true.mp h2 e' he')
  unfold Ex owesU
  rw [LL_rm (waitR c) h1]
  unfold waitR
  iintro ⟨#HR, #Hlev, ⟨%Wt, HO⟩, HU, ⟨⟨Hc, Hat⟩, HW⟩, HP, HF, HD⟩ Hk
  iapply (wait_cell m ρ K c (.inr e) q hq (owedL c s.U) Wt hN) $$ [Hc HO Hat]
  · isplitr; · iexact HR
    isplitl [Hc]; · iexact Hc
    isplitl [HO]; · iexact HO
    isplitr; · iapply (mayWait_recv c e s.U h2'); iexact Hlev
    iexact Hat
  iintro ⟨HO, Hz, Hpay⟩
  iapply Hk
  unfold Stg.step
  rw [LL_cons, LL_cons]
  isplitl [HO]; · iexists _; iexact HO
  isplitl [HU]; · iexact HU
  isplitl [HW]; · iexact HW
  isplitl [HP Hpay]
  · isplitl [Hpay]; · iapply (Entails.of_eq (xferPay_recv m ρ c e)); iexact Hpay
    iexact HP
  isplitl [HF]; · iexact HF
  isplitl [Hz]; · iexact Hz
  iexact HD

/-- A copy's source awaited: the half it read comes back. -/
theorem back_step {α : Type} {Q : α → sProp 𝕄} {k : PUnit → Prog (TpuEff nD τ sig (Elt F) Λ₀ .tc) α}
    (s : Stg) (e : Tr) (hs : s.ok (.back e) = true) (q : DmaSem sig) (hq : q = sendQ e)
    {sp sp' : Space} {src : Memref sig .tc sp S256x256 .bf16} {dst : Memref sig .tc sp' S256x256 .bf16} {hsrc : src.view.WordExact} {hdst : dst.view.WordExact}
    (hN : dst.view.dmaCredit = N) :
    iprop(records m ρ K ∗ levAts L lv ∗ Ex m ρ c s)
      ⊢ iprop((Ex m ρ c (s.step (.back e)) -∗ W c (k ⟨⟩) Q) -∗ W c (.op (.waitDma2 q src dst hsrc hdst) k) Q) := by
  obtain ⟨h1, h2⟩ := Bool.and_eq_true_iff.mp hs
  have h2' : s.U = [] := List.isEmpty_iff.mp h2
  unfold Ex owesU
  rw [LL_rm (fly m ρ c) h1, h2']
  unfold fly
  iintro ⟨#HR, #Hlev, ⟨%Wt, HO⟩, HU, HW, HP, ⟨⟨Hc, Hat, Hp⟩, HF⟩, HD⟩ Hk
  iapply (wait_cell m ρ K c (.inl e) q hq (owedL c []) Wt hN) $$ [Hc HO Hat]
  · isplitr; · iexact HR
    isplitl [Hc]; · iexact Hc
    isplitl [HO]; · iexact HO
    isplitr; · rw [show owedL c [] = 0 from rfl, MayWait_zero]; iempintro
    iexact Hat
  iintro ⟨HO, Hz, Hpay⟩
  iapply Hk
  unfold Stg.step
  rw [LL_cons, LL_cons, h2', pc_halves]
  isplitl [HO]; · iexists _; iexact HO
  isplitl [HU]; · iexact HU
  isplitl [HW]; · iexact HW
  isplitl [HP Hpay Hp]
  · isplitl [Hpay Hp]
    · isplitl [Hpay]; · iapply (Entails.of_eq (xferPay_send m ρ c e)); iexact Hpay
      iexact Hp
    iexact HP
  isplitl [HF]; · iexact HF
  isplitl [Hz]; · iexact Hz
  iexact HD

/-- What lands: the piece at the neighbour, holding what the source held. -/
theorem landed (e : Tr) (f : Buf (Elt F) ((pM (dstP e)).view.loc (nbr e c : Thread nD τ))) :
    ((pM (dstP e)).view.loc (nbr e c : Thread nD τ) ↦[(pM (dstP e)).view.set]{fullShare}
        ((pM (dstP e)).view.write (Elt F) f ((pM (srcP e)).view.read (Elt F) ((pM (srcP e)).view.rep (xP m ρ (srcP e) c))) Finset.univ) : sProp 𝕄)
      ⊢ pc m ρ fullShare (dstP e) (nbr e c) := by
  unfold pc
  exact pointsTo_rep_of_read (nbr e c : Thread nD τ) (pM (dstP e)) _ _ _
    (by rw [View.read_write_univ, View.read_rep, xP_dst])

theorem mem_duties (d : Dev nD) (x : Ck) : false ∈ (ringRd (F := F) m ρ).duties (kcell (d, some x)) 0 := by
  rw [duties_dma]; exact Finset.mem_singleton_self _

/-- A copy started. -/
theorem send_step {α : Type} {Q : α → sProp 𝕄} {k : PUnit → Prog (TpuEff nD τ sig (Elt F) Λ₀ .tc) α}
    (s : Stg) (e : Tr) (hs : s.ok (.send e) = true) (n : Dev nD) (hn : n = nbr e c)
    {hsc : (pM (dstP e) : Memref sig (Dev.tc n : Thread nD τ).2.kind .vmem S256x256 .bf16).view.ref.isScScratch = false}
    {hsrc : (pM (srcP e)).view.WordExact} {hdst : (pM (dstP e)).view.WordExact}
    {hsem : DmaTarget.Typed .vmem (.dma (recvQ e)) (.remote (Dev.tc n : Thread nD τ) (pM (dstP e)) (.dma (sendQ e)) hsc)} :
    iprop(records m ρ K ∗ levAts L lv ∗ Ex m ρ c s)
      ⊢ iprop((Ex m ρ c (s.step (.send e)) -∗ W c (k ⟨⟩) Q)
          -∗ W c (.op (.enqueueDma (pM (srcP e)) (.remote (Dev.tc n : Thread nD τ) (pM (dstP e)) (.dma (sendQ e)) hsc) (.dma (recvQ e)) hsrc hdst hsem) k) Q) := by
  subst hn
  obtain ⟨h1, h2⟩ := Bool.and_eq_true_iff.mp hs
  have h1' := of_decide_eq_true h1
  rcases s with ⟨_ | ⟨e', U⟩, Wt, Pf, Fl, D⟩
  · cases h1'
  have he : e' = e := Option.some.inj h1'
  subst he
  unfold Ex owesU
  dsimp only at h2 ⊢
  rw [LL_rm (fun p => pc m ρ fullShare p c) h2, LL_cons]
  unfold unsent sendTok land
  iintro ⟨#HR, #Hlev, ⟨%W', HO⟩, ⟨⟨⟨HtS, HtR, Hat⟩, ⟨%f, Hland⟩⟩, HU⟩, HW, ⟨Hp, HP⟩, HF, HD⟩ Hk
  ihave Hp := (Entails.of_eq (pc_halves m ρ (srcP e') c)) $$ Hp
  icases Hp with ⟨HpL, HpR⟩
  unfold pc
  iapply (Rounds.wp_send_pointsTo 𝒱₀ ER (ringRd m ρ) (c : Thread nD τ) none (κ₁ := K (c, some (.inl e'))) (κ₂ := K (nbr e' c, some (.inr e')))
    (r₁ := 0) (r₂ := 0) (d₁ := false) (d₂ := false) (fd := f) (q := shL)
    (mem_duties m ρ c (.inl e')) (mem_duties m ρ (nbr e' c) (.inr e'))
    () () N (credit_eq (dstP e')) (amount_dma m ρ c (.inl e') false) (amount_dma m ρ (nbr e' c) (.inr e') false) (owedL c U) rfl (W := W')
    (Entails.of_eq (payload_dma m ρ c (.inl e') false).symm)
    ((landed m ρ c e' f).trans (Entails.of_eq (payload_dma m ρ (nbr e' c) (.inr e') false).symm))) $$ [HpL Hland HO HtS HtR]
  · isplitr; · iapply (inv_at m ρ K (c, some (.inl e'))); iexact HR
    isplitr; · iapply (inv_at m ρ K (nbr e' c, some (.inr e'))); iexact HR
    isplitl [HpL]; · iexact HpL
    isplitl [Hland]; · iexact Hland
    isplitl [HO]; · iexact HO
    isplitl [HtS]; · iexact HtS
    isplitr; · iapply (reached_at m ρ K (c, some (.inl e'))); iexact HR
    isplitl [HtR]; · iexact HtR
    iapply (reached_at m ρ K (nbr e' c, some (.inr e'))); iexact HR
  iintro ⟨Hc, HO⟩
  iapply Hk
  unfold Stg.step
  dsimp only [List.tail_cons]
  rw [LL_cons]
  isplitl [HO]; · iexists W'; iexact HO
  isplitl [HU]; · iexact HU
  isplitl [HW]; · iexact HW
  isplitl [HP]; · iexact HP
  isplitl [Hc Hat HpR HF]
  · isplitl [Hc Hat HpR]
    · unfold fly pc
      isplitl [Hc]; · iexact Hc
      isplitl [Hat]; · iexact Hat
      iexact HpR
    iexact HF
  iexact HD

end State

end Cert.KernelIdealRing

end
-- ==== Proof.Pieces.lean ====
/-
  The exchange buffers cut into pieces: a piece's elements are those of one slot, one of keys and values, one batch; and a
  store of keys or values of both batches into slot 0 fills two pieces.
-/
module

public import proofs.«01_k».proof.Proof.Sched

@[expose] public section

set_option maxRecDepth 16384
set_option synthInstance.maxSize 4096

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Which elements a piece has -/

/-- The elements of a piece of the right-going and of the left-going buffer. -/
def setR (p : Fin 5 × Fin 2 × Fin 2) : Finset S5x2x2x256x256.Idx := (rectR p.1 p.2.1 p.2.2).set
def setL (p : Fin 4 × Fin 2 × Fin 2) : Finset S4x2x2x256x256.Idx := (rectL p.1 p.2.1 p.2.2).set

theorem setR_eq (p : Fin 5 × Fin 2 × Fin 2) : (pM (.inl p)).view.set = setR p :=
  (Memref.set_view_squeeze (rM.slice (rectR p.1 p.2.1 p.2.2) (fun _ => rfl)) squeezes_S1x1x1x256x256_S256x256).trans (View.set_slice_whole cc0_scratch0 (rectR p.1 p.2.1 p.2.2))
theorem setL_eq (p : Fin 4 × Fin 2 × Fin 2) : (pM (.inr p)).view.set = setL p :=
  (Memref.set_view_squeeze (lM.slice (rectL p.1 p.2.1 p.2.2) (fun _ => rfl)) squeezes_S1x1x1x256x256_S256x256).trans (View.set_slice_whole cc0_scratch1 (rectL p.1 p.2.1 p.2.2))

theorem mem_setR (p : Fin 5 × Fin 2 × Fin 2) (i : S5x2x2x256x256.Idx) :
    Iff (i ∈ setR p) ((i 0).val = p.1.val ∧ (i 1).val = p.2.1.val ∧ (i 2).val = p.2.2.val) := by
  unfold setR
  rw [Rect.mem_set_unit]
  refine ⟨fun h => ⟨?_, ?_, ?_⟩, fun ⟨h0, h1, h2⟩ a => ?_⟩
  · have h : p.1.val ≤ (i 0).val ∧ (i 0).val < p.1.val + 1 := h 0
    omega
  · have h : p.2.1.val ≤ (i 1).val ∧ (i 1).val < p.2.1.val + 1 := h 1
    omega
  · have h : p.2.2.val ≤ (i 2).val ∧ (i 2).val < p.2.2.val + 1 := h 2
    omega
  · fin_cases a
    · exact show p.1.val ≤ (i 0).val ∧ (i 0).val < p.1.val + 1 by omega
    · exact show p.2.1.val ≤ (i 1).val ∧ (i 1).val < p.2.1.val + 1 by omega
    · exact show p.2.2.val ≤ (i 2).val ∧ (i 2).val < p.2.2.val + 1 by omega
    · exact show 0 ≤ (i 3).val ∧ (i 3).val < 0 + 256 from ⟨Nat.zero_le _, by rw [Nat.zero_add]; exact (i 3).isLt⟩
    · exact show 0 ≤ (i 4).val ∧ (i 4).val < 0 + 256 from ⟨Nat.zero_le _, by rw [Nat.zero_add]; exact (i 4).isLt⟩
theorem mem_setL (p : Fin 4 × Fin 2 × Fin 2) (i : S4x2x2x256x256.Idx) :
    Iff (i ∈ setL p) ((i 0).val = p.1.val ∧ (i 1).val = p.2.1.val ∧ (i 2).val = p.2.2.val) := by
  unfold setL
  rw [Rect.mem_set_unit]
  refine ⟨fun h => ⟨?_, ?_, ?_⟩, fun ⟨h0, h1, h2⟩ a => ?_⟩
  · have h : p.1.val ≤ (i 0).val ∧ (i 0).val < p.1.val + 1 := h 0
    omega
  · have h : p.2.1.val ≤ (i 1).val ∧ (i 1).val < p.2.1.val + 1 := h 1
    omega
  · have h : p.2.2.val ≤ (i 2).val ∧ (i 2).val < p.2.2.val + 1 := h 2
    omega
  · fin_cases a
    · exact show p.1.val ≤ (i 0).val ∧ (i 0).val < p.1.val + 1 by omega
    · exact show p.2.1.val ≤ (i 1).val ∧ (i 1).val < p.2.1.val + 1 by omega
    · exact show p.2.2.val ≤ (i 2).val ∧ (i 2).val < p.2.2.val + 1 by omega
    · exact show 0 ≤ (i 3).val ∧ (i 3).val < 0 + 256 from ⟨Nat.zero_le _, by rw [Nat.zero_add]; exact (i 3).isLt⟩
    · exact show 0 ≤ (i 4).val ∧ (i 4).val < 0 + 256 from ⟨Nat.zero_le _, by rw [Nat.zero_add]; exact (i 4).isLt⟩

theorem setR_disj (p p' : Fin 5 × Fin 2 × Fin 2) (h : p ≠ p') : Disjoint (setR p) (setR p') :=
  Finset.disjoint_left.mpr fun i h1 h2 => by
    obtain ⟨a0, a1, a2⟩ := (mem_setR p i).mp h1
    obtain ⟨b0, b1, b2⟩ := (mem_setR p' i).mp h2
    exact h (Prod.ext (Fin.ext (a0.symm.trans b0)) (Prod.ext (Fin.ext (a1.symm.trans b1)) (Fin.ext (a2.symm.trans b2))))
theorem setL_disj (p p' : Fin 4 × Fin 2 × Fin 2) (h : p ≠ p') : Disjoint (setL p) (setL p') :=
  Finset.disjoint_left.mpr fun i h1 h2 => by
    obtain ⟨a0, a1, a2⟩ := (mem_setL p i).mp h1
    obtain ⟨b0, b1, b2⟩ := (mem_setL p' i).mp h2
    exact h (Prod.ext (Fin.ext (a0.symm.trans b0)) (Prod.ext (Fin.ext (a1.symm.trans b1)) (Fin.ext (a2.symm.trans b2))))

/-- Keys or values of both batches in slot 0. -/
theorem inbR2 (t : Fin 2) : ∀ a, (![0, t.val, 0, 0, 0] : Fin 5 → ℕ) a + S1x1x2x256x256.size a ≤ S5x2x2x256x256.size a := by
  revert t; decide
theorem inbL2 (t : Fin 2) : ∀ a, (![0, t.val, 0, 0, 0] : Fin 5 → ℕ) a + S1x1x2x256x256.size a ≤ S4x2x2x256x256.size a := by
  revert t; decide
abbrev regR (t : Fin 2) : Rect S5x2x2x256x256 := Rect.unit (s := S5x2x2x256x256) ![0, t.val, 0, 0, 0] S1x1x2x256x256.size (inbR2 t)
abbrev regL (t : Fin 2) : Rect S4x2x2x256x256 := Rect.unit (s := S4x2x2x256x256) ![0, t.val, 0, 0, 0] S1x1x2x256x256.size (inbL2 t)

theorem regR_sub (t : Fin 2) : (rM.access (regR t)).set ⊆ setR (0, t, 0) ∪ setR (0, t, 1) := fun i hi => by
  have hi : i ∈ (regR t).set := (View.set_slice_whole cc0_scratch0 (regR t)) ▸ hi
  rw [Rect.mem_set_unit] at hi
  have h0 : 0 ≤ (i 0).val ∧ (i 0).val < 0 + 1 := hi 0
  have h1 : t.val ≤ (i 1).val ∧ (i 1).val < t.val + 1 := hi 1
  have h2 : 0 ≤ (i 2).val ∧ (i 2).val < 0 + 2 := hi 2
  rw [Finset.mem_union, mem_setR, mem_setR]
  rcases (show (i 2).val = 0 ∨ (i 2).val = 1 by omega) with h | h
  · exact .inl ⟨by show (i 0).val = 0; omega, by show (i 1).val = t.val; omega, h⟩
  · exact .inr ⟨by show (i 0).val = 0; omega, by show (i 1).val = t.val; omega, h⟩
theorem regL_sub (t : Fin 2) : (lM.access (regL t)).set ⊆ setL (0, t, 0) ∪ setL (0, t, 1) := fun i hi => by
  have hi : i ∈ (regL t).set := (View.set_slice_whole cc0_scratch1 (regL t)) ▸ hi
  rw [Rect.mem_set_unit] at hi
  have h0 : 0 ≤ (i 0).val ∧ (i 0).val < 0 + 1 := hi 0
  have h1 : t.val ≤ (i 1).val ∧ (i 1).val < t.val + 1 := hi 1
  have h2 : 0 ≤ (i 2).val ∧ (i 2).val < 0 + 2 := hi 2
  rw [Finset.mem_union, mem_setL, mem_setL]
  rcases (show (i 2).val = 0 ∨ (i 2).val = 1 by omega) with h | h
  · exact .inl ⟨by show (i 0).val = 0; omega, by show (i 1).val = t.val; omega, h⟩
  · exact .inr ⟨by show (i 0).val = 0; omega, by show (i 1).val = t.val; omega, h⟩

/-! ## What a piece holds after such a store -/

variable {F : FTy → Type} [FloatOps F] [Named F]

local notation "𝕄" => MT nD τ sig Unit (Elt F) ℕ UU ℕ

variable (m : (ℓ : Loc nD τ sig) → Buf (Elt F) ℓ) (ρ : Dev nD → PrngReg)

/-- Reading a piece after a store through a larger rectangle, the piece's elements being those of `z`. -/
theorem read_write_in {sp : Space} {s : Shape} (M : Memref sig .tc sp s .bf16) (R r : Rect s) (hr) (hq : r.shape.Squeezes S256x256) (f : M.view.ty.Contents (Elt F))
    (w : R.shape.Idx → Elt F .bf16) (X : S256x256.Idx → Elt F .bf16) (z : S256x256.Idx → R.shape.Idx)
    (hz : ∀ j, R.emb (z j) = r.emb (Shape.reshapeEquiv hq.numel_eq j)) (hw : ∀ j, w (z j) = X j) :
    ((M.slice r hr).squeeze S256x256 hq).view.read (Elt F) ((M.access R).write (Elt F) f w Finset.univ) = X := by
  funext j
  have h : (M.access R).read (Elt F) ((M.access R).write (Elt F) f w Finset.univ) (z j) = w (z j) := congrFun (View.read_write_univ _ _) (z j)
  rw [← hw j, ← h]
  show cast _ ((M.access R).write (Elt F) f w Finset.univ (M.view.emb (r.emb _))) = cast _ ((M.access R).write (Elt F) f w Finset.univ (M.view.emb (R.emb (z j))))
  rw [hz j]; rfl

/-- The index of a batch's element in the stored value, in a piece, and in the keys or values. -/
def zIx (b : Fin 2) (j : S256x256.Idx) : S1x1x2x256x256.Idx := ValueIdx.ix5 0 0 b (j 0) (j 1)

theorem squeeze_ix (j : S256x256.Idx) :
    Shape.reshapeEquiv (squeezes_S1x1x1x256x256_S256x256).numel_eq j = (ValueIdx.ix5 0 0 0 (j 0) (j 1) : S1x1x1x256x256.Idx) :=
  Shape.reshapeEquiv_eq_of_rowMajor _ (by
    rw [Shape.rowMajor_val_two, Shape.rowMajor_val_five]
    simp [ValueIdx.ix5])

theorem emb_zR (t b : Fin 2) (j : S256x256.Idx) :
    (regR t).emb (zIx b j) = (rectR 0 t b).emb (Shape.reshapeEquiv (squeezes_S1x1x1x256x256_S256x256).numel_eq j) := by
  rw [squeeze_ix]
  funext a
  fin_cases a <;> exact Fin.ext (by simp [Rect.emb_apply, zIx, ValueIdx.ix5])
theorem emb_zL (t b : Fin 2) (j : S256x256.Idx) :
    (regL t).emb (zIx b j) = (rectL 0 t b).emb (Shape.reshapeEquiv (squeezes_S1x1x1x256x256_S256x256).numel_eq j) := by
  rw [squeeze_ix]
  funext a
  fin_cases a <;> exact Fin.ext (by simp [Rect.emb_apply, zIx, ValueIdx.ix5])

theorem cast_zIx {A : Type} (a : S2x256x256.Idx → A) (b : Fin 2) (j : S256x256.Idx) :
    shapeCast S1x1x2x256x256 a shapeCasts_S2x256x256_S1x1x2x256x256 (zIx b j) = a (ValueIdx.ix3 b (j 0) (j 1)) :=
  congrArg a (Shape.reshapeEquiv_eq_of_rowMajor _ (by
    rw [Shape.rowMajor_val_three, Shape.rowMajor_val_five]
    simp [ValueIdx.ix5, ValueIdx.ix3, zIx]))

end Cert.KernelIdealRing
end
-- ==== Proof.State.lean ====
/-
  The state between two operations with the operands and the result, and the program cut into stretches: what each kind of
  operation at the head of a stretch does.
-/
module

public import proofs.«01_k».proof.Proof.Steps
public import proofs.«01_k».proof.Proof.Pieces

@[expose] public section

set_option maxRecDepth 16384
set_option synthInstance.maxSize 4096

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The list of operations is sound -/

theorem stgAt_succ {n : ℕ} {o : Op} (h : (trace)[n]? = some o) : stgAt (n + 1) = (stgAt n).step o := by
  unfold stgAt; rw [List.take_succ, h, List.foldl_append]; rfl

/-- Every operation's side conditions hold, from `s` on. -/
def okAll : Stg → List Op → Bool
  | _, [] => true
  | s, o :: l => s.ok o && okAll (s.step o) l
theorem okAll_at : ∀ {l : List Op} {s : Stg} {n : ℕ} {o : Op}, okAll s l = true → l[n]? = some o → ((l.take n).foldl Stg.step s).ok o = true
  | [], _, _, _, _, h => by simp at h
  | a :: l, s, 0, o, hl, h => by
    rw [List.getElem?_cons_zero, Option.some.injEq] at h
    subst h; exact (Bool.and_eq_true_iff.mp hl).1
  | a :: l, s, n + 1, o, hl, h => by
    rw [List.getElem?_cons_succ] at h
    exact okAll_at (l := l) (s := s.step a) (Bool.and_eq_true_iff.mp hl).2 h
theorem okAll_trace : okAll stg0 trace = true := by decide +kernel
theorem ok_at {n : ℕ} {o : Op} (h : (trace)[n]? = some o) : (stgAt n).ok o = true := okAll_at okAll_trace h

/-- A piece the device can read after `n` operations: held full, or being copied out of. -/
def heldB (n : ℕ) (p : Pc) : Bool := has p (stgAt n).Pf || (stgAt n).Fl.any fun e => decide (srcP e = p)

/-! ## The state between two operations -/

section State
variable (K : Dev nD × Option Ck → ℕ) (c : Dev nD)

def xstg : (cc0_stg0_0 : Ref sig .tc).ty.Contents (Elt F) :=
  (win0_0.blk (0 : Fin 1)).view.read (Elt F) ((s₀ m ρ).mem ((c : Thread nD τ).loc main_arg0))
def wqstg : (cc0_stg1_0 : Ref sig .tc).ty.Contents (Elt F) :=
  (win0_1.blk (0 : Fin 1)).view.read (Elt F) ((s₀ m ρ).mem ((c : Thread nD τ).loc main_arg1))
def wostg : (cc0_stg4_0 : Ref sig .tc).ty.Contents (Elt F) :=
  (win0_4.blk (0 : Fin 1)).view.read (Elt F) ((s₀ m ρ).mem ((c : Thread nD τ).loc main_arg4))

/-- What the transfers leave alone until the end: the barrier's cell, closed, and what the pieces leave of the two exchange buffers. -/
def kept : sProp 𝕄 :=
  iprop(semVal (barCell c) 0 ∗ (∃ f : Buf (Elt F) ((c : Thread nD τ).loc cc0_scratch0), ((c : Thread nD τ).loc cc0_scratch0) ↦[Ring.restOf setR]{fullShare} f)
    ∗ (∃ f : Buf (Elt F) ((c : Thread nD τ).loc cc0_scratch1), ((c : Thread nD τ).loc cc0_scratch1) ↦[Ring.restOf setL]{fullShare} f))
/-- The five operands' staging buffers, and `kept`. -/
def opnds : sProp 𝕄 :=
  iprop((((c : Thread nD τ).loc cc0_stg0_0) ↦{fullShare} xstg m ρ c) ∗ (((c : Thread nD τ).loc cc0_stg1_0) ↦{fullShare} wqstg m ρ c)
    ∗ (((c : Thread nD τ).loc cc0_stg2_0) ↦{fullShare} kstg m ρ c) ∗ (((c : Thread nD τ).loc cc0_stg3_0) ↦{fullShare} vstg m ρ c)
    ∗ (((c : Thread nD τ).loc cc0_stg4_0) ↦{fullShare} wostg m ρ c) ∗ kept c)
/-- The result's staging buffer. -/
def outP (o : (cc0_stg5_0 : Ref sig .tc).ty.Contents (Elt F)) : sProp 𝕄 := ((c : Thread nD τ).loc cc0_stg5_0) ↦{fullShare} o

/-- The device after `n` exchange operations, the result's staging buffer holding `o`. -/
def St (n : ℕ) (o : (cc0_stg5_0 : Ref sig .tc).ty.Contents (Elt F)) : sProp 𝕄 :=
  iprop((records m ρ K ∗ levAts L lv ∗ Ex m ρ c (stgAt n)) ∗ opnds m ρ c ∗ outP c o)

/-- A stretch of the program: from `P` to `P'`, returning `r`. -/
def PartP {α : Type} (P P' : sProp 𝕄) (p : Prog (TpuEff nD τ sig (Elt F) Λ₀ .tc) α) (r : α) : Prop :=
  ∀ Q : α → sProp 𝕄, P ⊢ iprop((P' -∗ Q r) -∗ W c p Q)
/-- The same between two positions in the list of operations. -/
def Part {α : Type} (p : Prog (TpuEff nD τ sig (Elt F) Λ₀ .tc) α) (n n' : ℕ) (o o' : (cc0_stg5_0 : Ref sig .tc).ty.Contents (Elt F)) (r : α) : Prop :=
  PartP c (St m ρ K c n o) (St m ρ K c n' o') p r

variable {m ρ K c}

theorem Part.ret {α : Type} {n : ℕ} {o} {r : α} : Part m ρ K c (pure r) n n o o r := fun Q => by
  rw [Prog.pure_eq_ret]
  unfold W
  rw [wp_ret]
  iintro H Hk
  imodintro
  iapply Hk; iexact H

theorem PartP.bind {α β : Type} {p : Prog (TpuEff nD τ sig (Elt F) Λ₀ .tc) α} {k : α → Prog (TpuEff nD τ sig (Elt F) Λ₀ .tc) β}
    {P P' P'' : sProp 𝕄} {r : α} {r' : β} (h : PartP c P P' p r) (hk : PartP c P' P'' (k r) r') : PartP c P P'' (p >>= k) r' := fun Q => by
  show _ ⊢ iprop(_ -∗ wp frame (wpE (defs₀ (F := F)) 𝒱₀ (c : Thread nD τ) none) Set.univ (p >>= k) Q)
  rw [wp_bind]
  iintro H Hk
  iapply (h fun a => W c (k a) Q) $$ H
  iintro H
  iapply (hk Q) $$ H
  iexact Hk
theorem Part.bind {α β : Type} {p : Prog (TpuEff nD τ sig (Elt F) Λ₀ .tc) α} {k : α → Prog (TpuEff nD τ sig (Elt F) Λ₀ .tc) β}
    {n n' n'' : ℕ} {o o' o''} {r : α} {r' : β} (h : Part m ρ K c p n n' o o' r) (hk : Part m ρ K c (k r) n' n'' o' o'' r') :
    Part m ρ K c (p >>= k) n n'' o o'' r' := PartP.bind h hk

theorem lift_bind {α β : Type} (e : TpuEff nD τ sig (Elt F) Λ₀ .tc α) (k : α → Prog (TpuEff nD τ sig (Elt F) Λ₀ .tc) β) : (Prog.lift e >>= k) = .op e k := rfl

theorem Part.eq {α : Type} {p p' : Prog (TpuEff nD τ sig (Elt F) Λ₀ .tc) α} {n n' : ℕ} {o o'} {r : α} (hp : p = p')
    (h : Part m ρ K c p' n n' o o' r) : Part m ρ K c p n n' o o' r := hp ▸ h

/-- An operation that leaves the operands and the result alone. -/
theorem Part.ofEx {α : Type} {e : TpuEff nD τ sig (Elt F) Λ₀ .tc PUnit} {k : PUnit → Prog (TpuEff nD τ sig (Elt F) Λ₀ .tc) α} {n n' : ℕ} {o o'} {r : α}
    (x : Op) (hn : (trace)[n]? = some x)
    (h : ∀ Q : α → sProp 𝕄, iprop(records m ρ K ∗ levAts L lv ∗ Ex m ρ c (stgAt n))
      ⊢ iprop((Ex m ρ c ((stgAt n).step x) -∗ W c (k ⟨⟩) Q) -∗ W c (.op e k) Q))
    (hk : Part m ρ K c (k ⟨⟩) (n + 1) n' o o' r) : Part m ρ K c (Prog.lift e >>= k) n n' o o' r := fun Q => by
  rw [lift_bind]
  have hk := hk Q
  unfold St at hk ⊢
  rw [stgAt_succ hn] at hk
  iintro ⟨⟨#HR, #HL, HE⟩, HO⟩ Hk
  iapply (h Q) $$ [HE]
  · isplitr; · iexact HR
    isplitr; · iexact HL
    iexact HE
  iintro HE
  iapply hk $$ [HE HO]
  · isplitl [HE]
    · isplitr; · iexact HR
      isplitr; · iexact HL
      iexact HE
    iexact HO
  iexact Hk

theorem Part.recv {α : Type} {k : PUnit → Prog (TpuEff nD τ sig (Elt F) Λ₀ .tc) α} {n n' : ℕ} {o o'} {r : α}
    {q : DmaSem sig} {sp sp' : Space} {src : Memref sig .tc sp S256x256 .bf16} {dst : Memref sig .tc sp' S256x256 .bf16} {hsrc : src.view.WordExact} {hdst : dst.view.WordExact}
    (e : Tr) (hn : (trace)[n]? = some (.recv e)) (hq : q = recvQ e) (hN : dst.view.dmaCredit = N)
    (hk : Part m ρ K c (k ⟨⟩) (n + 1) n' o o' r) : Part m ρ K c (Prog.lift (.waitDma2 q src dst hsrc hdst) >>= k) n n' o o' r :=
  Part.ofEx (.recv e) hn (fun Q => recv_step m ρ K c (stgAt n) e (ok_at hn) q hq hN) hk

theorem Part.back {α : Type} {k : PUnit → Prog (TpuEff nD τ sig (Elt F) Λ₀ .tc) α} {n n' : ℕ} {o o'} {r : α}
    {q : DmaSem sig} {sp sp' : Space} {src : Memref sig .tc sp S256x256 .bf16} {dst : Memref sig .tc sp' S256x256 .bf16} {hsrc : src.view.WordExact} {hdst : dst.view.WordExact}
    (e : Tr) (hn : (trace)[n]? = some (.back e)) (hq : q = sendQ e) (hN : dst.view.dmaCredit = N)
    (hk : Part m ρ K c (k ⟨⟩) (n + 1) n' o o' r) : Part m ρ K c (Prog.lift (.waitDma2 q src dst hsrc hdst) >>= k) n n' o o' r :=
  Part.ofEx (.back e) hn (fun Q => back_step m ρ K c (stgAt n) e (ok_at hn) q hq hN) hk

theorem Part.send {α : Type} {k : PUnit → Prog (TpuEff nD τ sig (Elt F) Λ₀ .tc) α} {n n' : ℕ} {o o'} {r : α}
    (e : Tr) {d : Dev nD}
    {hsc : (pM (dstP e) : Memref sig (Dev.tc d : Thread nD τ).2.kind .vmem S256x256 .bf16).view.ref.isScScratch = false}
    {hsrc : (pM (srcP e)).view.WordExact} {hdst : (pM (dstP e)).view.WordExact}
    {hsem : DmaTarget.Typed .vmem (.dma (recvQ e)) (.remote (Dev.tc d : Thread nD τ) (pM (dstP e)) (.dma (sendQ e)) hsc)}
    (hn : (trace)[n]? = some (.send e)) (hd : d = nbr e c)
    (hk : Part m ρ K c (k ⟨⟩) (n + 1) n' o o' r) :
    Part m ρ K c (Prog.lift (.enqueueDma (pM (srcP e)) (.remote (Dev.tc d : Thread nD τ) (pM (dstP e)) (.dma (sendQ e)) hsc) (.dma (recvQ e)) hsrc hdst hsem) >>= k) n n' o o' r :=
  Part.ofEx (.send e) hn (fun Q => send_step m ρ K c (stgAt n) e (ok_at hn) d hd) hk

/-! ## Loads and stores -/

/-- A load that returns `v` and changes nothing, from what part of the state it reads. -/
theorem Part.ofLoad {α : Type} {cs : CoreSpace} {s : Shape} {e : EltTy} {M : Memref sig .tc cs s e} {r : LoadRect s} {hl : M.view.LoadsAt r}
    {k : (r.shape.Idx → Elt F e) → Prog (TpuEff nD τ sig (Elt F) Λ₀ .tc) α} {n n' : ℕ} {o o'} {x : α}
    (q : PosShare TreeShare) (S : Finset (Idx (M.view.loc (c : Thread nD τ)))) (f : Buf (Elt F) (M.view.loc (c : Thread nD τ)))
    (hS : M.view.setOn r.set ⊆ S)
    (hst : St m ρ K c n o ⊢ iprop((M.view.loc (c : Thread nD τ) ↦[S]{q} f) ∗ ((M.view.loc (c : Thread nD τ) ↦[S]{q} f) -∗ St m ρ K c n o)))
    {v : r.shape.Idx → Elt F e} (hv : M.view.readAt (Elt F) r f = v)
    (hk : Part m ρ K c (k v) n n' o o' x) : Part m ρ K c (Prog.lift (.load M r hl) >>= k) n n' o o' x := fun Q => by
  rw [lift_bind]
  subst hv
  iintro H Hk
  ihave H := hst $$ H
  icases H with ⟨H, Hb⟩
  iapply (wp_load 𝒱₀ (c : Thread nD τ) none Set.univ hS) $$ H
  iintro H
  iapply (hk Q) $$ [H Hb]
  · iapply Hb; iexact H
  iexact Hk

theorem sep_get {X Y : sProp 𝕄} : iprop(X ∗ Y) ⊢ iprop(X ∗ (X -∗ iprop(X ∗ Y))) := by
  iintro ⟨H1, H2⟩; isplitl [H1]; · iexact H1
  iintro H1; isplitl [H1] <;> iassumption
theorem get_under {P X Y Z : sProp 𝕄} (h : X ⊢ iprop(P ∗ (P -∗ X))) : iprop(Y ∗ X ∗ Z) ⊢ iprop(P ∗ (P -∗ iprop(Y ∗ X ∗ Z))) := by
  iintro ⟨HY, HX, HZ⟩
  ihave HX := h $$ HX
  icases HX with ⟨HP, HX⟩
  isplitl [HP]; · iexact HP
  iintro HP
  isplitl [HY]; · iexact HY
  isplitl [HP HX]; · iapply HX; iexact HP
  iexact HZ
theorem get_right {P X Y : sProp 𝕄} (h : X ⊢ iprop(P ∗ (P -∗ X))) : iprop(Y ∗ X) ⊢ iprop(P ∗ (P -∗ iprop(Y ∗ X))) := by
  iintro ⟨HY, HX⟩
  ihave HX := h $$ HX
  icases HX with ⟨HP, HX⟩
  isplitl [HP]; · iexact HP
  iintro HP
  isplitl [HY]; · iexact HY
  iapply HX; iexact HP
theorem get_left {P X Y : sProp 𝕄} (h : X ⊢ iprop(P ∗ (P -∗ X))) : iprop(X ∗ Y) ⊢ iprop(P ∗ (P -∗ iprop(X ∗ Y))) := by
  iintro ⟨HX, HY⟩
  ihave HX := h $$ HX
  icases HX with ⟨HP, HX⟩
  isplitl [HP]; · iexact HP
  iintro HP
  isplitl [HP HX]; · iapply HX; iexact HP
  iexact HY

section Windows
variable {α : Type} {n n' : ℕ} {o o' : (cc0_stg5_0 : Ref sig .tc).ty.Contents (Elt F)} {x : α}

theorem Part.load0 {r : LoadRect S2x256x512} {hl} {k} (hk : Part m ρ K c (k ((Memref.whole cc0_stg0_0 : Memref sig .tc _ _ _).view.readAt (Elt F) r (xstg m ρ c))) n n' o o' x) :
    Part m ρ K c (Prog.lift (.load (Memref.whole cc0_stg0_0) r hl) >>= k) n n' o o' x :=
  Part.ofLoad fullShare Finset.univ (xstg m ρ c) (Finset.subset_univ _) (get_under (by unfold opnds; exact sep_get)) rfl hk
theorem Part.load1 {r : LoadRect S512x256} {hl} {k} (hk : Part m ρ K c (k ((Memref.whole cc0_stg1_0 : Memref sig .tc _ _ _).view.readAt (Elt F) r (wqstg m ρ c))) n n' o o' x) :
    Part m ρ K c (Prog.lift (.load (Memref.whole cc0_stg1_0) r hl) >>= k) n n' o o' x :=
  Part.ofLoad fullShare Finset.univ (wqstg m ρ c) (Finset.subset_univ _) (get_under (by unfold opnds; exact get_right sep_get)) rfl hk
theorem Part.load4 {r : LoadRect S256x512} {hl} {k} (hk : Part m ρ K c (k ((Memref.whole cc0_stg4_0 : Memref sig .tc _ _ _).view.readAt (Elt F) r (wostg m ρ c))) n n' o o' x) :
    Part m ρ K c (Prog.lift (.load (Memref.whole cc0_stg4_0) r hl) >>= k) n n' o o' x :=
  Part.ofLoad fullShare Finset.univ (wostg m ρ c) (Finset.subset_univ _)
    (get_under (by unfold opnds; exact get_right (get_right (get_right (get_right sep_get))))) rfl hk
theorem Part.load5 {r : LoadRect S2x256x512} {hl} {k} (hk : Part m ρ K c (k ((Memref.whole cc0_stg5_0 : Memref sig .tc _ _ _).view.readAt (Elt F) r o)) n n' o o' x) :
    Part m ρ K c (Prog.lift (.load (Memref.whole cc0_stg5_0) r hl) >>= k) n n' o o' x :=
  Part.ofLoad fullShare Finset.univ o (Finset.subset_univ _)
    (get_right (get_right (by
      unfold outP
      iintro H; isplitl [H]; · iexact H
      iintro H; iexact H))) rfl hk

theorem Part.store5 {r : Rect S2x256x512} {w : r.shape.Idx → Elt F .f32} {hx} {hm} {k}
    (hk : Part m ρ K c (k ⟨⟩) n n' (((Memref.whole cc0_stg5_0 : Memref sig .tc _ _ _).access r).write (Elt F) o w Finset.univ) o' x) :
    Part m ρ K c (Prog.lift (.store (Memref.whole cc0_stg5_0) r w Finset.univ hx hm) >>= k) n n' o o' x := fun Q => by
  rw [lift_bind]
  have hk := hk Q
  unfold St outP at hk ⊢
  iintro ⟨HE, HW, HO⟩ Hk
  iapply (wp_store 𝒱₀ (c : Thread nD τ) none Set.univ (m := (Memref.whole cc0_stg5_0 : Memref sig .tc _ _ _)) (r := r) (Mk := Finset.univ) (Finset.subset_univ _)) $$ HO
  iintro HO
  iapply hk $$ [HE HW HO]
  · isplitl [HE]; · iexact HE
    isplitl [HW] <;> iassumption
  iexact Hk

/-- A held piece's share. -/
theorem held {p : Pc} (h : heldB n p = true) : ∃ q, Ex m ρ c (stgAt n) ⊢ iprop(pc m ρ q p c ∗ (pc m ρ q p c -∗ Ex m ρ c (stgAt n))) := by
  unfold heldB at h
  rcases Bool.or_eq_true_iff.mp h with h | h
  · refine ⟨fullShare, ?_⟩
    unfold Ex
    rw [LL_rm (fun p => pc m ρ fullShare p c) h]
    exact get_right (get_right (get_right (get_left sep_get)))
  · obtain ⟨e, he, h⟩ := List.any_eq_true.mp h
    have h := of_decide_eq_true h
    subst h
    refine ⟨shR, ?_⟩
    unfold Ex
    rw [LL_rm (fly m ρ c) (a := e) (List.any_eq_true.mpr ⟨e, he, decide_eq_true rfl⟩)]
    refine get_right (get_right (get_right (get_right (get_left (get_left ?_)))))
    unfold fly
    refine get_right (get_right ?_)
    iintro H; isplitl [H]; · iexact H
    iintro H; iexact H

/-- What a load of one piece returns when the piece holds `X`. -/
def un (X : S256x256.Idx → Elt F .bf16) : S1x1x1x256x256.Idx → Elt F .bf16 :=
  fun z => X ((Shape.reshapeEquiv (squeezes_S1x1x1x256x256_S256x256).numel_eq).symm z)

theorem held_St {p : Pc} {q} (h : Ex m ρ c (stgAt n) ⊢ iprop(pc m ρ q p c ∗ (pc m ρ q p c -∗ Ex m ρ c (stgAt n)))) :
    St m ρ K c n o ⊢ iprop(pc m ρ q p c ∗ (pc m ρ q p c -∗ St m ρ K c n o)) := by
  unfold St; exact get_left (get_right (get_right h))

/-- Reading a slice whose squeezed view reads `X`. -/
theorem read_un {sp : Space} {s : Shape} (M : Memref sig .tc sp s .bf16) (r : Rect s) (hr) (hq : r.shape.Squeezes S256x256) {f : M.view.ty.Contents (Elt F)}
    (X : S256x256.Idx → Elt F .bf16) (h : ((M.slice r hr).squeeze S256x256 hq).view.read (Elt F) f = X) :
    M.view.readAt (Elt F) r.toLoadRect f = fun z => X ((Shape.reshapeEquiv hq.numel_eq).symm z) := by
  subst h
  funext z
  show _ = (M.slice r hr).view.read (Elt F) f (Shape.reshapeEquiv hq.numel_eq _)
  rw [Equiv.apply_symm_apply]; rfl

/-- A load of a slice of which a squeezed form is held at `X`. -/
theorem Part.loadSlice {sp : CoreSpace} {s : Shape} (M : Memref sig .tc sp s .bf16) (r : Rect s) (hr) (hq : r.shape.Squeezes S256x256) {hl : M.view.LoadsAt r.toLoadRect}
    {k : (r.toLoadRect.shape.Idx → Elt F .bf16) → Prog (TpuEff nD τ sig (Elt F) Λ₀ .tc) α} (X : S256x256.Idx → Elt F .bf16) (q : PosShare TreeShare) {P : sProp 𝕄}
    (hP : P = (((M.slice r hr).squeeze S256x256 hq).view.loc (c : Thread nD τ) ↦[((M.slice r hr).squeeze S256x256 hq).view.set]{q} ((M.slice r hr).squeeze S256x256 hq).view.rep X))
    (hst : St m ρ K c n o ⊢ iprop(P ∗ (P -∗ St m ρ K c n o)))
    (hk : Part m ρ K c (k (fun z => X ((Shape.reshapeEquiv hq.numel_eq).symm z))) n n' o o' x) :
    Part m ρ K c (Prog.lift (.load M r.toLoadRect hl) >>= k) n n' o o' x := by
  subst hP
  exact Part.ofLoad (M := M) (r := r.toLoadRect) (hl := hl) (k := k) q ((M.slice r hr).squeeze S256x256 hq).view.set
    (((M.slice r hr).squeeze S256x256 hq).view.rep X)
    (subset_trans (View.set_slice M.view r).symm.subset (Memref.set_view_squeeze (M.slice r hr) hq).symm.subset) hst
    (read_un M r hr hq X (View.read_rep _ X)) hk

theorem Part.loadR (s : Fin 5) (t b : Fin 2) {hl : (rM).view.LoadsAt (rectR s t b).toLoadRect}
    {k : (S1x1x1x256x256.Idx → Elt F .bf16) → Prog (TpuEff nD τ sig (Elt F) Λ₀ .tc) α} (h : heldB n (.inl (s, t, b)) = true)
    (hk : Part m ρ K c (k (un (xP m ρ (.inl (s, t, b)) c))) n n' o o' x) :
    Part m ρ K c (Prog.lift (.load rM (rectR s t b).toLoadRect hl) >>= k) n n' o o' x := by
  obtain ⟨q, hq⟩ := held (m := m) (ρ := ρ) (c := c) h
  exact Part.loadSlice rM (rectR s t b) (fun _ => rfl) squeezes_S1x1x1x256x256_S256x256 (xP m ρ (.inl (s, t, b)) c) q
    (P := pc m ρ q (.inl (s, t, b)) c) (by unfold pc; rfl) (held_St hq) hk

theorem Part.loadL (s : Fin 4) (t b : Fin 2) {hl : (lM).view.LoadsAt (rectL s t b).toLoadRect}
    {k : (S1x1x1x256x256.Idx → Elt F .bf16) → Prog (TpuEff nD τ sig (Elt F) Λ₀ .tc) α} (h : heldB n (.inr (s, t, b)) = true)
    (hk : Part m ρ K c (k (un (xP m ρ (.inr (s, t, b)) c))) n n' o o' x) :
    Part m ρ K c (Prog.lift (.load lM (rectL s t b).toLoadRect hl) >>= k) n n' o o' x := by
  obtain ⟨q, hq⟩ := held (m := m) (ρ := ρ) (c := c) h
  exact Part.loadSlice lM (rectL s t b) (fun _ => rfl) squeezes_S1x1x1x256x256_S256x256 (xP m ρ (.inr (s, t, b)) c) q
    (P := pc m ρ q (.inr (s, t, b)) c) (by unfold pc; rfl) (held_St hq) hk

end Windows
end State

end Cert.KernelIdealRing

end
-- ==== Proof.Spec.lean ====
module

public import proofs.«01_k».proof.Proof.State

@[expose] public section

set_option maxRecDepth 16384
set_option synthInstance.maxSize 4096

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## One device's result, from its queries and the eight blocks of keys and values

The kernel accumulates, per batch and head, the products of the exponentials with the values and the exponentials' row
sums, its own block first and then the blocks that arrive: one step behind, one ahead, two behind, and so on. -/

section Pure
variable (o : ℕ) (ho : S256x256.Slices ![0, o] S256x64)

/-- One head's scores of a block. -/
def score (q k : FVec F S256x256 .bf16) : FVec F S256x256 .f32 :=
  mulf (matmul dot_S256x64_S256x64_S256x256_1_1_0_0_n_n none (extractStridedSlice S256x64 ![0, o] q ho) (extractStridedSlice S256x64 ![0, o] k ho)
    (constant S256x256 .f32 0x00000000#32)) (broadcast S256x256 (Scalar.ofBits .f32 0x3E000000#32))
/-- The exponentials of the device's own block, masked, and of a block of another device, kept or dropped whole. -/
def expD (q k : FVec F S256x256 .bf16) (bias : FVec F S256x256 .f32) : FVec F S256x256 .f32 := exp (addf (score o ho q k) bias)
def expV (q k : FVec F S256x256 .bf16) (vis : F .f32) : FVec F S256x256 .f32 := mulf (exp (score o ho q k)) (broadcast S256x256 vis)
/-- Row sums, and the product with the values. -/
def rsum (p : FVec F S256x256 .f32) : FVec F S256x1 .f32 :=
  shapeCast S256x1 (multiReduction .add [1] S256 p 0x00000000#32 reduces_S256x256_S256 (.inl rfl) rfl) shapeCasts_S256_S256x1
def pval (p : FVec F S256x256 .f32) (v : FVec F S256x256 .bf16) : FVec F S256x64 .f32 :=
  matmul dot_S256x256_S256x64_S256x64_1_0_0_1_n_n none (truncf .bf16 p bitsLt_bf16_f32) (extractStridedSlice S256x64 ![0, o] v ho)
    (constant S256x64 .f32 0x00000000#32)

/-- The seven blocks of other devices, in the order in which the kernel adds them. -/
structure Blk (F : FTy → Type) where
  vis : F .f32
  k : FVec F S256x256 .bf16
  v : FVec F S256x256 .bf16

variable (q kd vd : FVec F S256x256 .bf16) (bias : FVec F S256x256 .f32) (B : Fin 7 → Blk F)
def numStep (a : FVec F S256x64 .f32) (b : Blk F) : FVec F S256x64 .f32 := addf a (pval o ho (expV o ho q b.k b.vis) b.v)
def denStep (a : FVec F S256x1 .f32) (b : Blk F) : FVec F S256x1 .f32 := addf a (rsum (expV o ho q b.k b.vis))
def numer : FVec F S256x64 .f32 :=
  numStep o ho q (numStep o ho q (numStep o ho q (numStep o ho q (numStep o ho q (numStep o ho q (numStep o ho q
    (pval o ho (expD o ho q kd bias) vd) (B 0)) (B 1)) (B 2)) (B 3)) (B 4)) (B 5)) (B 6)
def denom : FVec F S256x1 .f32 :=
  denStep o ho q (denStep o ho q (denStep o ho q (denStep o ho q (denStep o ho q (denStep o ho q (denStep o ho q
    (rsum (expD o ho q kd bias)) (B 0)) (B 1)) (B 2)) (B 3)) (B 4)) (B 5)) (B 6)
def headOut : FVec F S256x64 .f32 := divf (numer o ho q kd vd bias B) (broadcastTo S256x64 (denom o ho q kd bias B) broadcasts_S256x1_S256x64)
end Pure

/-- The four heads side by side, times the output matrix. -/
def outOf (q kd vd : FVec F S256x256 .bf16) (bias : FVec F S256x256 .f32) (B : Fin 7 → Blk F) (wo : FVec F S256x512 .bf16) : FVec F S1x256x512 .f32 :=
  shapeCast S1x256x512 (matmul dot_S256x256_S256x512_S256x512_1_0_0_1_n_n none
    (truncf .bf16 (concatenate S256x256 1 [⟨S256x64, headOut 0 slices_S256x256_o0_0_S256x64 q kd vd bias B⟩, ⟨S256x64, headOut 64 slices_S256x256_o0_64_S256x64 q kd vd bias B⟩,
      ⟨S256x64, headOut 128 slices_S256x256_o0_128_S256x64 q kd vd bias B⟩, ⟨S256x64, headOut 192 slices_S256x256_o0_192_S256x64 q kd vd bias B⟩]
      concatenates_S256x64_S256x64_S256x64_S256x64_S256x256_d1) bitsLt_bf16_f32) wo (constant S256x512 .f32 0x00000000#32)) shapeCasts_S256x512_S1x256x512

/-- The queries of one batch. -/
def qOf (x : FVec F S1x256x512 .bf16) (wq : FVec F S512x256 .bf16) : FVec F S256x256 .bf16 :=
  truncf .bf16 (matmul dot_S256x512_S512x256_S256x256_1_0_0_1_n_n none (shapeCast S256x512 x shapeCasts_S1x256x512_S256x512)
    (shapeCast S512x256 wq shapeCasts_S512x256_S512x256) (constant S256x256 .f32 0x00000000#32)) bitsLt_bf16_f32
/-- The mask of the device's own block. -/
def biasOf : FVec F S256x256 .f32 := k0_pay14 k0_pay11 (iota .tc S256x256 32 [1] iota_S256x256_d1_w32) 64#32 k0_pay12 k0_pay13

def v2 (c : Dev nD) : BitVec 32 := Scalar.remsi (Scalar.divsi (Dev.word c) 1#32) 8#32
def v5 (c : Dev nD) : BitVec 32 := Scalar.remsi (Scalar.subi (Scalar.addi (v2 c) 8#32) 1#32) 8#32
def v7 (c : Dev nD) : BitVec 32 := Scalar.remsi (Scalar.addi (v2 c) 1#32) 8#32
/-- Whether a block is kept: its device's number against this one's. -/
def visOf (w : BitVec 32) (c : Dev nD) : F .f32 := Scalar.sitofp .f32 (Scalar.extui (Scalar.cmpi .slt (Scalar.remsi w 8#32) (v2 c)) : BitVec 32)
def visR (h : BitVec 32) (c : Dev nD) : F .f32 := visOf (Scalar.subi (Scalar.subi (Scalar.addi (v2 c) 8#32) 1#32) h) c
def visL (h : BitVec 32) (c : Dev nD) : F .f32 := visOf (Scalar.addi (Scalar.addi (v2 c) h) 1#32) c

/-- A piece as a matrix. -/
def matP (p : Pc) (c : Dev nD) : FVec F S256x256 .bf16 := shapeCast S256x256 (un (xP m ρ p c)) shapeCasts_S1x1x1x256x256_S256x256
def blkR (s : Fin 5) (h : BitVec 32) (b : Fin 2) (c : Dev nD) : Blk F := ⟨visR h c, matP m ρ (.inl (s, 0, b)) c, matP m ρ (.inl (s, 1, b)) c⟩
def blkL (s : Fin 4) (h : BitVec 32) (b : Fin 2) (c : Dev nD) : Blk F := ⟨visL h c, matP m ρ (.inr (s, 0, b)) c, matP m ρ (.inr (s, 1, b)) c⟩
def blks (b : Fin 2) (c : Dev nD) : Fin 7 → Blk F
  | 0 => blkR m ρ 1 0#32 b c
  | 1 => blkL m ρ 1 0#32 b c
  | 2 => blkR m ρ 2 1#32 b c
  | 3 => blkL m ρ 2 1#32 b c
  | 4 => blkR m ρ 3 2#32 b c
  | 5 => blkL m ρ 3 2#32 b c
  | 6 => blkR m ρ 4 3#32 b c

def x0 (c : Dev nD) : FVec F S1x256x512 .bf16 := (Memref.whole cc0_stg0_0 : Memref sig .tc _ _ _).view.readAt (Elt F)
  (Rect.unit (s := S2x256x512) ![0, 0, 0] S1x256x512.size inb_S2x256x512_S1x256x512_0_0_0).toLoadRect (xstg m ρ c)
def x1 (c : Dev nD) : FVec F S1x256x512 .bf16 := (Memref.whole cc0_stg0_0 : Memref sig .tc _ _ _).view.readAt (Elt F)
  (Rect.unit (s := S2x256x512) ![1, 0, 0] S1x256x512.size inb_S2x256x512_S1x256x512_1_0_0).toLoadRect (xstg m ρ c)
def wqL (c : Dev nD) : FVec F S512x256 .bf16 := (Memref.whole cc0_stg1_0 : Memref sig .tc _ _ _).view.readAt (Elt F)
  (Rect.unit (s := S512x256) ![0, 0] S512x256.size inb_S512x256_S512x256_0_0).toLoadRect (wqstg m ρ c)
def woL (c : Dev nD) : FVec F S256x512 .bf16 := (Memref.whole cc0_stg4_0 : Memref sig .tc _ _ _).view.readAt (Elt F)
  (Rect.unit (s := S256x512) ![0, 0] S256x512.size inb_S256x512_S256x512_0_0).toLoadRect (wostg m ρ c)

def own0 (a : FVec F S2x256x256 .bf16) : FVec F S256x256 .bf16 :=
  shapeCast S256x256 (extractStridedSlice S1x256x256 ![0, 0, 0] a slices_S2x256x256_o0_0_0_S1x256x256) shapeCasts_S1x256x256_S256x256
def own1 (a : FVec F S2x256x256 .bf16) : FVec F S256x256 .bf16 :=
  shapeCast S256x256 (extractStridedSlice S1x256x256 ![1, 0, 0] a slices_S2x256x256_o1_0_0_S1x256x256) shapeCasts_S1x256x256_S256x256

/-- The two batches of a device's result. -/
def out0 (c : Dev nD) : FVec F S1x256x512 .f32 :=
  outOf (qOf (x0 m ρ c) (wqL m ρ c)) (own0 (k0_pay1 (kstg m ρ c))) (own0 (k0_pay2 (vstg m ρ c))) biasOf (blks m ρ 0 c)
    (shapeCast S256x512 (woL m ρ c) shapeCasts_S256x512_S256x512)
def out1 (c : Dev nD) : FVec F S1x256x512 .f32 :=
  outOf (qOf (x1 m ρ c) (wqL m ρ c)) (own1 (k0_pay1 (kstg m ρ c))) (own1 (k0_pay2 (vstg m ρ c))) biasOf (blks m ρ 1 c)
    (shapeCast S256x512 (woL m ρ c) shapeCasts_S256x512_S256x512)
/-- The result's staging buffer at the end, `o` before. -/
def outAt (c : Dev nD) (o : (cc0_stg5_0 : Ref sig .tc).ty.Contents (Elt F)) : (cc0_stg5_0 : Ref sig .tc).ty.Contents (Elt F) :=
  ((Memref.whole cc0_stg5_0 : Memref sig .tc _ _ _).access (Rect.unit (s := S2x256x512) ![1, 0, 0] S1x256x512.size inb_S2x256x512_S1x256x512_1_0_0)).write (Elt F)
    (((Memref.whole cc0_stg5_0 : Memref sig .tc _ _ _).access (Rect.unit (s := S2x256x512) ![0, 0, 0] S1x256x512.size inb_S2x256x512_S1x256x512_0_0_0)).write (Elt F) o
      (out0 m ρ c) Finset.univ) (out1 m ρ c) Finset.univ

end Cert.KernelIdealRing
end
-- ==== Proof.Walk.lean ====
module

public import proofs.«01_k».proof.Proof.Spec

@[expose] public section

set_option maxRecDepth 16384
set_option synthInstance.maxSize 4096

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable {K : Dev nD × Option Ck → ℕ} {c : Dev nD} {m ρ}

/-- A store of a value that is known in another form. -/
theorem Part.store5' {α : Type} {n n' : ℕ} {o o' : (cc0_stg5_0 : Ref sig .tc).ty.Contents (Elt F)} {x : α}
    {r : Rect S2x256x512} {w : r.shape.Idx → Elt F .f32} {hx} {hm} {k} (w' : r.shape.Idx → Elt F .f32) (hw : w = w')
    (hk : Part m ρ K c (k ⟨⟩) n n' (((Memref.whole cc0_stg5_0 : Memref sig .tc _ _ _).access r).write (Elt F) o w' Finset.univ) o' x) :
    Part m ρ K c (Prog.lift (.store (Memref.whole cc0_stg5_0) r w Finset.univ hx hm) >>= k) n n' o o' x := by
  subst hw; exact Part.store5 hk

set_option maxHeartbeats 4000000 in
/-- The body after its first two parts, each exchange operation taken in turn. -/
theorem walk_parts {P P1 : sProp 𝕄} (o : (cc0_stg5_0 : Ref sig .tc).ty.Contents (Elt F))
    (h1 : PartP c P P1 (k0_part1 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) ⟨c, v2 c, v5 c, v7 c, k0_pay1 (kstg m ρ c), k0_pay2 (vstg m ρ c)⟩)
    (h2 : PartP c P1 (St m ρ K c 1 o) (k0_part2 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 c (v7 c) (k0_pay1 (kstg m ρ c)) (k0_pay2 (vstg m ρ c))) 1#32) :
    PartP c P (St m ρ K c 84 (outAt m ρ c o)) (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) ⟨⟩ := by
  unfold cc0_body
  refine PartP.bind (P' := St m ρ K c 72 (outAt m ρ c o)) (r := ⟨⟩) ?_ ?_
  · unfold k0_part65
    refine PartP.bind h1 ?_
    refine PartP.bind h2 ?_
    refine Part.bind (by rw [k0_part3_eq_skeleton]; exact Part.send (.inr (0, 0, 0)) rfl (Fin.ext (k0_dev4_eq c)) <| Part.send (.inl (0, 1, 0)) rfl (Fin.ext (k0_dev5_eq c)) <| Part.ret) ?_
    refine Part.bind (by rw [k0_part4_eq_skeleton]; exact Part.send (.inr (0, 1, 0)) rfl (Fin.ext (k0_dev6_eq c)) <| Part.send (.inl (0, 0, 1)) rfl (Fin.ext (k0_dev7_eq c)) <| Part.ret) ?_
    refine Part.bind (by rw [k0_part5_eq_skeleton]; exact Part.send (.inr (0, 0, 1)) rfl (Fin.ext (k0_dev8_eq c)) <| Part.send (.inl (0, 1, 1)) rfl (Fin.ext (k0_dev9_eq c)) <| Part.send (.inr (0, 1, 1)) rfl (Fin.ext (k0_dev10_eq c)) <| Part.ret) ?_
    refine Part.bind (by rw [k0_part6_eq_skeleton]; exact Part.load1 <| Part.load4 <| Part.load0 <| Part.load0 <| Part.ret) ?_
    refine Part.bind (by rw [k0_part7_eq_skeleton]; exact Part.ret) ?_
    refine Part.bind (by rw [k0_part8_eq_skeleton]; exact Part.ret) ?_
    refine Part.bind (by rw [k0_part9_eq_skeleton]; exact Part.ret) ?_
    refine Part.bind (by rw [k0_part10_eq_skeleton]; exact Part.recv _ rfl rfl rfl <| Part.ret) ?_
    refine Part.bind (by rw [k0_part11_eq_skeleton]; exact Part.send (.inl (1, 0, 0)) rfl (Fin.ext (k0_dev11_eq c)) <| Part.recv _ rfl rfl rfl <| Part.send (.inl (1, 1, 0)) rfl (Fin.ext (k0_dev12_eq c)) <| Part.ret) ?_
    refine Part.bind (by rw [k0_part12_eq_skeleton]; exact Part.loadR 1 0 0 rfl <| Part.loadR 1 1 0 rfl <| Part.ret) ?_
    refine Part.bind (by rw [k0_part13_eq_skeleton]; exact Part.ret) ?_
    refine Part.bind (by rw [k0_part14_eq_skeleton]; exact Part.recv _ rfl rfl rfl <| Part.send (.inl (1, 0, 1)) rfl (Fin.ext (k0_dev13_eq c)) <| Part.recv _ rfl rfl rfl <| Part.ret) ?_
    refine Part.bind (by rw [k0_part15_eq_skeleton]; exact Part.send (.inl (1, 1, 1)) rfl (Fin.ext (k0_dev14_eq c)) <| Part.loadR 1 0 1 rfl <| Part.loadR 1 1 1 rfl <| Part.ret) ?_
    refine Part.bind (by rw [k0_part16_eq_skeleton]; exact Part.ret) ?_
    refine Part.bind (by rw [k0_part17_eq_skeleton]; exact Part.recv _ rfl rfl rfl <| Part.send (.inr (1, 0, 0)) rfl (Fin.ext (k0_dev15_eq c)) <| Part.ret) ?_
    refine Part.bind (by rw [k0_part18_eq_skeleton]; exact Part.recv _ rfl rfl rfl <| Part.send (.inr (1, 1, 0)) rfl (Fin.ext (k0_dev16_eq c)) <| Part.ret) ?_
    refine Part.bind (by rw [k0_part19_eq_skeleton]; exact Part.loadL 1 0 0 rfl <| Part.loadL 1 1 0 rfl <| Part.ret) ?_
    refine Part.bind (by rw [k0_part20_eq_skeleton]; exact Part.recv _ rfl rfl rfl <| Part.ret) ?_
    refine Part.bind (by rw [k0_part21_eq_skeleton]; exact Part.send (.inr (1, 0, 1)) rfl (Fin.ext (k0_dev17_eq c)) <| Part.recv _ rfl rfl rfl <| Part.ret) ?_
    refine Part.bind (by rw [k0_part22_eq_skeleton]; exact Part.send (.inr (1, 1, 1)) rfl (Fin.ext (k0_dev18_eq c)) <| Part.loadL 1 0 1 rfl <| Part.loadL 1 1 1 rfl <| Part.ret) ?_
    refine Part.bind (by rw [k0_part23_eq_skeleton]; exact Part.ret) ?_
    refine Part.bind (by rw [k0_part24_eq_skeleton]; exact Part.recv _ rfl rfl rfl <| Part.send (.inl (2, 0, 0)) rfl (Fin.ext (k0_dev19_eq c)) <| Part.ret) ?_
    refine Part.bind (by rw [k0_part25_eq_skeleton]; exact Part.recv _ rfl rfl rfl <| Part.send (.inl (2, 1, 0)) rfl (Fin.ext (k0_dev20_eq c)) <| Part.loadR 2 0 0 rfl <| Part.loadR 2 1 0 rfl <| Part.ret) ?_
    refine Part.bind (by rw [k0_part26_eq_skeleton]; exact Part.ret) ?_
    refine Part.bind (by rw [k0_part27_eq_skeleton]; exact Part.recv _ rfl rfl rfl <| Part.ret) ?_
    refine Part.bind (by rw [k0_part28_eq_skeleton]; exact Part.send (.inl (2, 0, 1)) rfl (Fin.ext (k0_dev21_eq c)) <| Part.recv _ rfl rfl rfl <| Part.send (.inl (2, 1, 1)) rfl (Fin.ext (k0_dev22_eq c)) <| Part.ret) ?_
    refine Part.bind (by rw [k0_part29_eq_skeleton]; exact Part.loadR 2 0 1 rfl <| Part.loadR 2 1 1 rfl <| Part.ret) ?_
    refine Part.bind (by rw [k0_part30_eq_skeleton]; exact Part.ret) ?_
    refine Part.bind (by rw [k0_part31_eq_skeleton]; exact Part.recv _ rfl rfl rfl <| Part.send (.inr (2, 0, 0)) rfl (Fin.ext (k0_dev23_eq c)) <| Part.recv _ rfl rfl rfl <| Part.ret) ?_
    refine Part.bind (by rw [k0_part32_eq_skeleton]; exact Part.send (.inr (2, 1, 0)) rfl (Fin.ext (k0_dev24_eq c)) <| Part.loadL 2 0 0 rfl <| Part.loadL 2 1 0 rfl <| Part.ret) ?_
    refine Part.bind (by rw [k0_part33_eq_skeleton]; exact Part.ret) ?_
    refine Part.bind (by rw [k0_part34_eq_skeleton]; exact Part.recv _ rfl rfl rfl <| Part.send (.inr (2, 0, 1)) rfl (Fin.ext (k0_dev25_eq c)) <| Part.ret) ?_
    refine Part.bind (by rw [k0_part35_eq_skeleton]; exact Part.recv _ rfl rfl rfl <| Part.send (.inr (2, 1, 1)) rfl (Fin.ext (k0_dev26_eq c)) <| Part.loadL 2 0 1 rfl <| Part.ret) ?_
    refine Part.bind (by rw [k0_part36_eq_skeleton]; exact Part.loadL 2 1 1 rfl <| Part.ret) ?_
    refine Part.bind (by rw [k0_part37_eq_skeleton]; exact Part.recv _ rfl rfl rfl <| Part.ret) ?_
    refine Part.bind (by rw [k0_part38_eq_skeleton]; exact Part.send (.inl (3, 0, 0)) rfl (Fin.ext (k0_dev27_eq c)) <| Part.recv _ rfl rfl rfl <| Part.ret) ?_
    refine Part.bind (by rw [k0_part39_eq_skeleton]; exact Part.send (.inl (3, 1, 0)) rfl (Fin.ext (k0_dev28_eq c)) <| Part.loadR 3 0 0 rfl <| Part.loadR 3 1 0 rfl <| Part.ret) ?_
    refine Part.bind (by rw [k0_part40_eq_skeleton]; exact Part.ret) ?_
    refine Part.bind (by rw [k0_part41_eq_skeleton]; exact Part.recv _ rfl rfl rfl <| Part.send (.inl (3, 0, 1)) rfl (Fin.ext (k0_dev29_eq c)) <| Part.ret) ?_
    refine Part.bind (by rw [k0_part42_eq_skeleton]; exact Part.recv _ rfl rfl rfl <| Part.send (.inl (3, 1, 1)) rfl (Fin.ext (k0_dev30_eq c)) <| Part.loadR 3 0 1 rfl <| Part.loadR 3 1 1 rfl <| Part.ret) ?_
    refine Part.bind (by rw [k0_part43_eq_skeleton]; exact Part.ret) ?_
    refine Part.bind (by rw [k0_part44_eq_skeleton]; exact Part.recv _ rfl rfl rfl <| Part.ret) ?_
    refine Part.bind (by rw [k0_part45_eq_skeleton]; exact Part.recv _ rfl rfl rfl <| Part.loadL 3 0 0 rfl <| Part.loadL 3 1 0 rfl <| Part.ret) ?_
    refine Part.bind (by rw [k0_part46_eq_skeleton]; exact Part.ret) ?_
    refine Part.bind (by rw [k0_part47_eq_skeleton]; exact Part.recv _ rfl rfl rfl <| Part.recv _ rfl rfl rfl <| Part.loadL 3 0 1 rfl <| Part.loadL 3 1 1 rfl <| Part.ret) ?_
    refine Part.bind (by rw [k0_part48_eq_skeleton]; exact Part.ret) ?_
    refine Part.bind (by rw [k0_part49_eq_skeleton]; exact Part.recv _ rfl rfl rfl <| Part.ret) ?_
    refine Part.bind (by rw [k0_part50_eq_skeleton]; exact Part.recv _ rfl rfl rfl <| Part.loadR 4 0 0 rfl <| Part.loadR 4 1 0 rfl <| Part.ret) ?_
    refine Part.bind (by rw [k0_part51_eq_skeleton]; exact Part.ret) ?_
    refine Part.bind (by rw [k0_part52_eq_skeleton]; exact Part.recv _ rfl rfl rfl <| Part.recv _ rfl rfl rfl <| Part.loadR 4 0 1 rfl <| Part.loadR 4 1 1 rfl <| Part.ret) ?_
    refine Part.bind (by rw [k0_part53_eq_skeleton]; exact Part.ret) ?_
    refine Part.bind (by rw [k0_part54_eq_skeleton]; exact Part.load5 <| Part.store5' (out0 m ρ c) (by rfl) <| Part.load5 <| Part.store5' (out1 m ρ c) (by rfl) <| Part.ret) ?_
    refine Part.bind (by rw [k0_part55_eq_skeleton]; exact Part.back _ rfl rfl rfl <| Part.back _ rfl rfl rfl <| Part.back _ rfl rfl rfl <| Part.ret) ?_
    refine Part.bind (by rw [k0_part56_eq_skeleton]; exact Part.back _ rfl rfl rfl <| Part.back _ rfl rfl rfl <| Part.ret) ?_
    refine Part.bind (by rw [k0_part57_eq_skeleton]; exact Part.back _ rfl rfl rfl <| Part.back _ rfl rfl rfl <| Part.back _ rfl rfl rfl <| Part.ret) ?_
    refine Part.bind (by rw [k0_part58_eq_skeleton]; exact Part.back _ rfl rfl rfl <| Part.back _ rfl rfl rfl <| Part.back _ rfl rfl rfl <| Part.ret) ?_
    refine Part.bind (by rw [k0_part59_eq_skeleton]; exact Part.back _ rfl rfl rfl <| Part.back _ rfl rfl rfl <| Part.back _ rfl rfl rfl <| Part.ret) ?_
    rw [k0_part60_eq_skeleton]; exact Part.back _ rfl rfl rfl <| Part.back _ rfl rfl rfl <| Part.ret
  refine Part.bind (by rw [k0_part61_eq_skeleton]; exact Part.back _ rfl rfl rfl <| Part.back _ rfl rfl rfl <| Part.back _ rfl rfl rfl <| Part.ret) ?_
  refine Part.bind (by rw [k0_part62_eq_skeleton]; exact Part.back _ rfl rfl rfl <| Part.back _ rfl rfl rfl <| Part.back _ rfl rfl rfl <| Part.ret) ?_
  refine Part.bind (by rw [k0_part63_eq_skeleton]; exact Part.back _ rfl rfl rfl <| Part.back _ rfl rfl rfl <| Part.ret) ?_
  refine Part.bind (by rw [k0_part64_eq_skeleton]; exact Part.back _ rfl rfl rfl <| Part.back _ rfl rfl rfl <| Part.back _ rfl rfl rfl <| Part.ret) ?_
  exact Part.back _ rfl rfl rfl <| Part.ret
end Cert.KernelIdealRing
end
-- ==== Proof.Entry.lean ====
/-
  The kernel's beginning: the handshake on the barrier, the device's own keys and values stored into slot 0 of both exchange
  buffers, and the first copy.
-/
module

public import proofs.«01_k».proof.Proof.Walk

@[expose] public section

set_option maxRecDepth 16384
set_option synthInstance.maxSize 4096

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable {m : (ℓ : Loc nD τ sig) → Buf (Elt F) ℓ} {ρ : Dev nD → PrngReg} {K : Dev nD × Option Ck → ℕ} {c : Dev nD}

/-! ## Stretches of the program over any assertions -/

theorem PartP.pre {α : Type} {p : Prog (TpuEff nD τ sig (Elt F) Λ₀ .tc) α} {P0 P P' : sProp 𝕄} {x : α} (h0 : P0 ⊢ P)
    (h : PartP c P P' p x) : PartP c P0 P' p x := fun Q => h0.trans (h Q)

theorem PartP.ret {α : Type} {P : sProp 𝕄} {x : α} : PartP c P P (pure x : Prog (TpuEff nD τ sig (Elt F) Λ₀ .tc) α) x := fun Q => by
  rw [Prog.pure_eq_ret]
  unfold W
  rw [wp_ret]
  iintro H Hk
  imodintro
  iapply Hk; iexact H

theorem PartP.ofLoad {α : Type} {cs : CoreSpace} {s : Shape} {e : EltTy} {M : Memref sig .tc cs s e} {r : LoadRect s} {hl : M.view.LoadsAt r}
    {k : (r.shape.Idx → Elt F e) → Prog (TpuEff nD τ sig (Elt F) Λ₀ .tc) α} {P P' : sProp 𝕄} {x : α}
    (q : PosShare TreeShare) (S : Finset (Idx (M.view.loc (c : Thread nD τ)))) (f : Buf (Elt F) (M.view.loc (c : Thread nD τ)))
    (hS : M.view.setOn r.set ⊆ S)
    (hst : P ⊢ iprop((M.view.loc (c : Thread nD τ) ↦[S]{q} f) ∗ ((M.view.loc (c : Thread nD τ) ↦[S]{q} f) -∗ P)))
    {v : r.shape.Idx → Elt F e} (hv : M.view.readAt (Elt F) r f = v)
    (hk : PartP c P P' (k v) x) : PartP c P P' (Prog.lift (.load M r hl) >>= k) x := fun Q => by
  rw [lift_bind]
  subst hv
  iintro H Hk
  ihave H := hst $$ H
  icases H with ⟨H, Hb⟩
  iapply (wp_load 𝒱₀ (c : Thread nD τ) none Set.univ hS) $$ H
  iintro H
  iapply (hk Q) $$ [H Hb]
  · iapply Hb; iexact H
  iexact Hk

/-- A load and a store of a rectangle within some elements: then those elements hold the stored contents. -/
theorem PartP.loadStore {α : Type} {s : Shape} {M : Memref sig .tc .vmem s .bf16} {R : Rect s} {w : R.shape.Idx → Elt F .bf16} {hl hx hm}
    {k : PUnit → Prog (TpuEff nD τ sig (Elt F) Λ₀ .tc) α} {Y P' : sProp 𝕄} {x : α}
    (S : Finset (Idx (M.view.loc (c : Thread nD τ)))) (hS : (M.access R).set ⊆ S) (A : sProp 𝕄)
    (hA : ∀ f : Buf (Elt F) (M.view.loc (c : Thread nD τ)), (M.view.loc (c : Thread nD τ) ↦[S]{fullShare} ((M.access R).write (Elt F) f w Finset.univ)) ⊢ A)
    (hk : PartP c iprop(Y ∗ A) P' (k ⟨⟩) x) :
    PartP c iprop((∃ f : Buf (Elt F) (M.view.loc (c : Thread nD τ)), M.view.loc (c : Thread nD τ) ↦[S]{fullShare} f) ∗ Y) P'
      (Prog.lift (.load M R.toLoadRect hl) >>= fun _ => Prog.lift (.store M R w Finset.univ hx hm) >>= k) x := fun Q => by
  rw [lift_bind]
  iintro ⟨⟨%f, H⟩, HY⟩ Hk
  iapply (wp_load 𝒱₀ (c : Thread nD τ) none Set.univ (m := M) (r := R.toLoadRect) (subset_trans (View.set_slice M.view R).symm.subset hS)) $$ H
  iintro H
  rw [lift_bind]
  iapply (wp_store 𝒱₀ (c : Thread nD τ) none Set.univ (m := M) (r := R) (w := w) (Mk := Finset.univ) hS) $$ H
  iintro H
  iapply (hk Q) $$ [H HY]
  · isplitl [HY]; · iexact HY
    iapply (hA f); iexact H
  iexact Hk

/-! ## The handshake -/

/-- What the handshake starts from, and what it leads to. -/
def hsPre (m : (ℓ : Loc nD τ sig) → Buf (Elt F) ℓ) (ρ : Dev nD → PrngReg) (K : Dev nD × Option Ck → ℕ) (c : Dev nD) (Y : sProp 𝕄) : sProp 𝕄 :=
  iprop(records m ρ K ∗ levAts L lv ∗ (∃ W, owes (c : Thread nD τ) (O₀ c) W) ∗ cred (tallyAt (barCell c) () 2) ∗ atPos ER (barCell c) 0 ∅ 0
    ∗ dutyTok ER (barCell (prv c)) 0 true ∗ dutyTok ER (barCell (nxt c)) 0 false
    ∗ LL (fun e => land (dstP e) c) edgesR ∗ LL (fun e => land (dstP e) c) edgesL ∗ Y)
def hsPost (m : (ℓ : Loc nD τ sig) → Buf (Elt F) ℓ) (ρ : Dev nD → PrngReg) (K : Dev nD × Option Ck → ℕ) (c : Dev nD) (Y : sProp 𝕄) : sProp 𝕄 :=
  iprop(records m ρ K ∗ levAts L lv ∗ (∃ W, owes (c : Thread nD τ) (O₂ c) W) ∗ semVal (barCell c) 0
    ∗ LL (fun e => land (dstP e) (nxt c)) edgesR ∗ LL (fun e => land (dstP e) (prv c)) edgesL ∗ Y)

theorem handshake {α : Type} {k : PUnit → Prog (TpuEff nD τ sig (Elt F) Λ₀ .tc) α} {Y P' : sProp 𝕄} {x : α} {d1 d2 : Dev nD} (h1 : d1 = prv c) (h2 : d2 = nxt c)
    (hk : PartP c (hsPost m ρ K c Y) P' (k ⟨⟩) x) :
    PartP c (hsPre m ρ K c Y) P' (semSignalWord (Val := Elt F) (Λ := Λ₀) (p := .tc) d1 barS 1#32 >>= fun _ => semSignalWord d2 barS 1#32 >>= fun _ => semWaitWord barS 2#32 >>= k) x := fun Q => by
  subst h1 h2
  unfold W
  simp only [semSignalWord, semWaitWord, Prog.lift, Prog.bind_op, Prog.bind_ret, Prog.pure_eq_ret]
  unfold hsPre
  iintro ⟨#HR, #Hlev, ⟨%W, HO⟩, Hc, Hat, HtP, HtN, HlR, HlL, HY⟩ Hk
  iapply (Rounds.wp_signal 𝒱₀ ER (ringRd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtP HlR]
  · isplitr; · iapply (inv_at m ρ K (prv c, none)); iexact HR
    isplitl [HO]; · iexact HO
    isplitl [HtP]; · iexact HtP
    isplitl [HlR]; · rw [payload_bar, barPay, if_pos rfl, nxt_prv]; iexact HlR
    iapply (reached_at m ρ K (prv c, none)); iexact HR
  iintro HO
  unfold O₁
  iapply (Rounds.wp_signal 𝒱₀ ER (ringRd m ρ) (c : Thread nD τ) none (dst := (nxt c : Thread nD τ)) (κ := K (nxt c, none))
      (d := false) (by rw [duties_bar]; exact Finset.mem_univ _) ((amount_bar m ρ (nxt c) false).trans (by decide)) () (O₂ c) rfl)
    $$ [HO HtN HlL]
  · isplitr; · iapply (inv_at m ρ K (nxt c, none)); iexact HR
    isplitl [HO]; · iexact HO
    isplitl [HtN]; · iexact HtN
    isplitl [HlL]; · rw [payload_bar, barPay, if_neg Bool.false_ne_true, prv_nxt]; iexact HlL
    iapply (reached_at m ρ K (nxt c, none)); iexact HR
  iintro HO
  iapply (Rounds.wp_wait_rest_token 𝒱₀ ER (ringRd m ρ) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  unfold barPay
  rw [if_neg Bool.false_ne_true, if_pos rfl]
  icases Hp with ⟨HlL, HlR⟩
  imod (Rounds.cell_close ER (ringRd m ρ) (Set.mem_univ (K (c, none))) (fun h => h) (R := 0 + 1) (duties_later m ρ (barCell c))) $$ [Hat] with HzB
  · isplitr; · iapply (inv_at m ρ K (c, none)); iexact HR
    iexact Hat
  iapply (hk Q) $$ [HO HlR HlL HzB HY]
  · unfold hsPost
    isplitr; · iexact HR
    isplitr; · iexact Hlev
    isplitl [HO]; · iexists _; iexact HO
    isplitl [HzB]; · iexact HzB
    isplitl [HlR]; · iexact HlR
    isplitl [HlL]; · iexact HlL
    iexact HY
  iexact Hk

/-! ## The two exchange buffers cut up and put together -/

variable (F) in
/-- A piece at whatever it holds, named by its elements. -/
def cutR (c : Dev nD) (p : Fin 5 × Fin 2 × Fin 2) : sProp 𝕄 := iprop(∃ f : Buf (Elt F) ((c : Thread nD τ).loc cc0_scratch0), ((c : Thread nD τ).loc cc0_scratch0) ↦[setR p]{fullShare} f)
variable (F) in
def cutL (c : Dev nD) (p : Fin 4 × Fin 2 × Fin 2) : sProp 𝕄 := iprop(∃ f : Buf (Elt F) ((c : Thread nD τ).loc cc0_scratch1), ((c : Thread nD τ).loc cc0_scratch1) ↦[setL p]{fullShare} f)

theorem cutR_land (p : Fin 5 × Fin 2 × Fin 2) : cutR F c p = land (.inl p) c := by
  unfold cutR land; rw [setR_eq p]
theorem cutL_land (p : Fin 4 × Fin 2 × Fin 2) : cutL F c p = land (.inr p) c := by
  unfold cutL land; rw [setL_eq p]

/-- The two batches' pieces of slot 0 together. -/
def slotR (c : Dev nD) (t : Fin 2) : sProp 𝕄 := iprop(∃ f : Buf (Elt F) ((c : Thread nD τ).loc cc0_scratch0), ((c : Thread nD τ).loc cc0_scratch0) ↦[setR (0, t, 0) ∪ setR (0, t, 1)]{fullShare} f)
def slotL (c : Dev nD) (t : Fin 2) : sProp 𝕄 := iprop(∃ f : Buf (Elt F) ((c : Thread nD τ).loc cc0_scratch1), ((c : Thread nD τ).loc cc0_scratch1) ↦[setL (0, t, 0) ∪ setL (0, t, 1)]{fullShare} f)

theorem join_two {ℓ : Loc nD τ sig} {I J : Finset (Idx ℓ)} (h : Disjoint I J) :
    iprop((∃ f : Buf (Elt F) ℓ, ℓ ↦[I]{fullShare} f) ∗ (∃ f : Buf (Elt F) ℓ, ℓ ↦[J]{fullShare} f)) ⊢ (iprop(∃ f : Buf (Elt F) ℓ, ℓ ↦[I ∪ J]{fullShare} f) : sProp 𝕄) := by
  iintro ⟨⟨%f, H1⟩, ⟨%g, H2⟩⟩
  iexists _
  iapply (pointsTo_join h)
  isplitl [H1] <;> iassumption

theorem LL_append {A : Type} (Φ : A → sProp 𝕄) : ∀ l l' : List A, LL Φ (l ++ l') = iprop(LL Φ l ∗ LL Φ l')
  | [], l' => by
    rw [List.nil_append, LL_nil]
    exact BI.Entails.antisymm
      (show LL Φ l' ⊢ iprop(emp ∗ LL Φ l') from by
        iintro H; isplitr; · iempintro
        iexact H)
      (show iprop(emp ∗ LL Φ l') ⊢ LL Φ l' from by iintro ⟨-, H⟩; iexact H)
  | a :: l, l' => by
    rw [List.cons_append, LL_cons, LL_cons, LL_append Φ l l']
    exact BI.Entails.antisymm
      (show iprop(Φ a ∗ LL Φ l ∗ LL Φ l') ⊢ iprop((Φ a ∗ LL Φ l) ∗ LL Φ l') from by
        iintro ⟨H1, H2, H3⟩; isplitl [H1 H2]
        · isplitl [H1] <;> iassumption
        iexact H3)
      (show iprop((Φ a ∗ LL Φ l) ∗ LL Φ l') ⊢ iprop(Φ a ∗ LL Φ l ∗ LL Φ l') from by
        iintro ⟨⟨H1, H2⟩, H3⟩; isplitl [H1]; · iexact H1
        isplitl [H2] <;> iassumption)

def slot0R : List (Fin 5 × Fin 2 × Fin 2) := [(0, 0, 0), (0, 0, 1), (0, 1, 0), (0, 1, 1)]
def slot0L : List (Fin 4 × Fin 2 × Fin 2) := [(0, 0, 0), (0, 0, 1), (0, 1, 0), (0, 1, 1)]
def lndR : List (Fin 5 × Fin 2 × Fin 2) := (List.finRange 4).flatMap fun h => [(h.succ, 0, 0), (h.succ, 1, 0), (h.succ, 0, 1), (h.succ, 1, 1)]
def lndL : List (Fin 4 × Fin 2 × Fin 2) := (List.finRange 3).flatMap fun h => [(h.succ, 0, 0), (h.succ, 1, 0), (h.succ, 0, 1), (h.succ, 1, 1)]
theorem allR_nodup : (slot0R ++ lndR).Nodup := by decide
theorem allL_nodup : (slot0L ++ lndL).Nodup := by decide
theorem allR_all (p : Fin 5 × Fin 2 × Fin 2) : p ∈ slot0R ++ lndR := by
  obtain ⟨s, t, b⟩ := p; revert s t b; decide
theorem allL_all (p : Fin 4 × Fin 2 × Fin 2) : p ∈ slot0L ++ lndL := by
  obtain ⟨s, t, b⟩ := p; revert s t b; decide

theorem splitR : (iprop(∃ f : Buf (Elt F) ((c : Thread nD τ).loc cc0_scratch0), ((c : Thread nD τ).loc cc0_scratch0) ↦{fullShare} f) : sProp 𝕄)
    ⊢ iprop(slotR c 0 ∗ slotR c 1 ∗ LL (fun e => land (dstP e) c) edgesR
      ∗ ∃ f : Buf (Elt F) ((c : Thread nD τ).loc cc0_scratch0), ((c : Thread nD τ).loc cc0_scratch0) ↦[Ring.restOf setR]{fullShare} f) := by
  refine (Ring.fam_split_ex (ℓ := (c : Thread nD τ).loc cc0_scratch0) setR setR_disj).trans ?_
  rw [show (bigSep Finset.univ fun b : Fin 5 × Fin 2 × Fin 2 => (iprop(∃ f : Buf (Elt F) ((c : Thread nD τ).loc cc0_scratch0), ((c : Thread nD τ).loc cc0_scratch0) ↦[setR b]{fullShare} f) : sProp 𝕄))
    = LL (cutR F c) (slot0R ++ lndR) from LL_univ (cutR F c) _ allR_nodup allR_all, LL_append]
  unfold slot0R
  rw [LL_cons, LL_cons, LL_cons, LL_cons]
  iintro ⟨⟨⟨H1, H2, H3, H4, -⟩, Hl⟩, Hr⟩
  unfold slotR
  isplitl [H1 H2]
  · iapply (join_two (setR_disj (0, 0, 0) (0, 0, 1) (by decide))); unfold cutR; isplitl [H1] <;> iassumption
  isplitl [H3 H4]
  · iapply (join_two (setR_disj (0, 1, 0) (0, 1, 1) (by decide))); unfold cutR; isplitl [H3] <;> iassumption
  isplitl [Hl]
  · iapply (Entails.of_eq (show LL (cutR F c) lndR = LL (fun e => land (dstP e) c) edgesR from by rw [show cutR F c = fun p => land (.inl p) c from funext cutR_land]; rfl))
    iexact Hl
  iexact Hr
theorem splitL : (iprop(∃ f : Buf (Elt F) ((c : Thread nD τ).loc cc0_scratch1), ((c : Thread nD τ).loc cc0_scratch1) ↦{fullShare} f) : sProp 𝕄)
    ⊢ iprop(slotL c 0 ∗ slotL c 1 ∗ LL (fun e => land (dstP e) c) edgesL
      ∗ ∃ f : Buf (Elt F) ((c : Thread nD τ).loc cc0_scratch1), ((c : Thread nD τ).loc cc0_scratch1) ↦[Ring.restOf setL]{fullShare} f) := by
  refine (Ring.fam_split_ex (ℓ := (c : Thread nD τ).loc cc0_scratch1) setL setL_disj).trans ?_
  rw [show (bigSep Finset.univ fun b : Fin 4 × Fin 2 × Fin 2 => (iprop(∃ f : Buf (Elt F) ((c : Thread nD τ).loc cc0_scratch1), ((c : Thread nD τ).loc cc0_scratch1) ↦[setL b]{fullShare} f) : sProp 𝕄))
    = LL (cutL F c) (slot0L ++ lndL) from LL_univ (cutL F c) _ allL_nodup allL_all, LL_append]
  unfold slot0L
  rw [LL_cons, LL_cons, LL_cons, LL_cons]
  iintro ⟨⟨⟨H1, H2, H3, H4, -⟩, Hl⟩, Hr⟩
  unfold slotL
  isplitl [H1 H2]
  · iapply (join_two (setL_disj (0, 0, 0) (0, 0, 1) (by decide))); unfold cutL; isplitl [H1] <;> iassumption
  isplitl [H3 H4]
  · iapply (join_two (setL_disj (0, 1, 0) (0, 1, 1) (by decide))); unfold cutL; isplitl [H3] <;> iassumption
  isplitl [Hl]
  · iapply (Entails.of_eq (show LL (cutL F c) lndL = LL (fun e => land (dstP e) c) edgesL from by rw [show cutL F c = fun p => land (.inr p) c from funext cutL_land]; rfl))
    iexact Hl
  iexact Hr

/-! ## The device's own pieces -/

/-- Two pieces filled by one store. -/
theorem two_pieces {s : Shape} (M : Memref sig .tc .vmem s .bf16) (R r0 r1 : Rect s) (hr0 hr1) (hq0 : r0.shape.Squeezes S256x256) (hq1 : r1.shape.Squeezes S256x256)
    {S0 S1 : Finset (Idx (M.view.loc (c : Thread nD τ)))}
    (h0 : ((M.slice r0 hr0).squeeze S256x256 hq0).view.set = S0) (h1 : ((M.slice r1 hr1).squeeze S256x256 hq1).view.set = S1) (hd : Disjoint S0 S1)
    (f : Buf (Elt F) (M.view.loc (c : Thread nD τ))) (w : R.shape.Idx → Elt F .bf16) (X0 X1 : S256x256.Idx → Elt F .bf16)
    (e0 : ((M.slice r0 hr0).squeeze S256x256 hq0).view.read (Elt F) ((M.access R).write (Elt F) f w Finset.univ) = X0)
    (e1 : ((M.slice r1 hr1).squeeze S256x256 hq1).view.read (Elt F) ((M.access R).write (Elt F) f w Finset.univ) = X1)
    {P0 P1 : sProp 𝕄}
    (hP0 : (((M.slice r0 hr0).squeeze S256x256 hq0).view.loc (c : Thread nD τ) ↦[((M.slice r0 hr0).squeeze S256x256 hq0).view.set]{fullShare} ((M.slice r0 hr0).squeeze S256x256 hq0).view.rep X0) ⊢ P0)
    (hP1 : (((M.slice r1 hr1).squeeze S256x256 hq1).view.loc (c : Thread nD τ) ↦[((M.slice r1 hr1).squeeze S256x256 hq1).view.set]{fullShare} ((M.slice r1 hr1).squeeze S256x256 hq1).view.rep X1) ⊢ P1) :
    (M.view.loc (c : Thread nD τ) ↦[S0 ∪ S1]{fullShare} ((M.access R).write (Elt F) f w Finset.univ) : sProp 𝕄) ⊢ iprop(P0 ∗ P1) := by
  refine (pointsTo_union hd).1.trans (BI.sep_mono (BI.Entails.trans ?_ hP0) (BI.Entails.trans ?_ hP1))
  · subst h0; exact pointsTo_rep_of_read (c : Thread nD τ) ((M.slice r0 hr0).squeeze S256x256 hq0) _ _ X0 e0
  · subst h1; exact pointsTo_rep_of_read (c : Thread nD τ) ((M.slice r1 hr1).squeeze S256x256 hq1) _ _ X1 e1

theorem bkR_zero (c : Dev nD) : bkR 0 c = c := by revert c; decide
theorem bkL_zero (c : Dev nD) : bkL 0 c = c := by revert c; decide

theorem ownR (t : Fin 2) (f : Buf (Elt F) ((c : Thread nD τ).loc cc0_scratch0)) :
    ((rM.access (regR t)).loc (c : Thread nD τ) ↦[setR (0, t, 0) ∪ setR (0, t, 1)]{fullShare}
        ((rM.access (regR t)).write (Elt F) f (shapeCast S1x1x2x256x256 (kvFull m ρ t c) shapeCasts_S2x256x256_S1x1x2x256x256) Finset.univ) : sProp 𝕄)
      ⊢ iprop(pc m ρ fullShare (.inl (0, t, 0)) c ∗ pc m ρ fullShare (.inl (0, t, 1)) c) := by
  refine two_pieces rM (regR t) (rectR 0 t 0) (rectR 0 t 1) (fun _ => rfl) (fun _ => rfl) squeezes_S1x1x1x256x256_S256x256 squeezes_S1x1x1x256x256_S256x256
    (setR_eq (0, t, 0)) (setR_eq (0, t, 1)) (setR_disj _ _ (by simp)) f _ (xP m ρ (.inl (0, t, 0)) c) (xP m ρ (.inl (0, t, 1)) c) ?_ ?_
    (BI.Entails.refl _) (BI.Entails.refl _)
  · exact read_write_in rM (regR t) (rectR 0 t 0) _ _ f _ _ (zIx 0) (emb_zR t 0) fun j => (cast_zIx _ 0 j).trans (congrArg (fun d => kvFull m ρ t d (ValueIdx.ix3 0 (j 0) (j 1))) (bkR_zero c).symm)
  · exact read_write_in rM (regR t) (rectR 0 t 1) _ _ f _ _ (zIx 1) (emb_zR t 1) fun j => (cast_zIx _ 1 j).trans (congrArg (fun d => kvFull m ρ t d (ValueIdx.ix3 1 (j 0) (j 1))) (bkR_zero c).symm)
theorem ownL (t : Fin 2) (f : Buf (Elt F) ((c : Thread nD τ).loc cc0_scratch1)) :
    ((lM.access (regL t)).loc (c : Thread nD τ) ↦[setL (0, t, 0) ∪ setL (0, t, 1)]{fullShare}
        ((lM.access (regL t)).write (Elt F) f (shapeCast S1x1x2x256x256 (kvFull m ρ t c) shapeCasts_S2x256x256_S1x1x2x256x256) Finset.univ) : sProp 𝕄)
      ⊢ iprop(pc m ρ fullShare (.inr (0, t, 0)) c ∗ pc m ρ fullShare (.inr (0, t, 1)) c) := by
  refine two_pieces lM (regL t) (rectL 0 t 0) (rectL 0 t 1) (fun _ => rfl) (fun _ => rfl) squeezes_S1x1x1x256x256_S256x256 squeezes_S1x1x1x256x256_S256x256
    (setL_eq (0, t, 0)) (setL_eq (0, t, 1)) (setL_disj _ _ (by simp)) f _ (xP m ρ (.inr (0, t, 0)) c) (xP m ρ (.inr (0, t, 1)) c) ?_ ?_
    (BI.Entails.refl _) (BI.Entails.refl _)
  · exact read_write_in lM (regL t) (rectL 0 t 0) _ _ f _ _ (zIx 0) (emb_zL t 0) fun j => (cast_zIx _ 0 j).trans (congrArg (fun d => kvFull m ρ t d (ValueIdx.ix3 0 (j 0) (j 1))) (bkL_zero c).symm)
  · exact read_write_in lM (regL t) (rectL 0 t 1) _ _ f _ _ (zIx 1) (emb_zL t 1) fun j => (cast_zIx _ 1 j).trans (congrArg (fun d => kvFull m ρ t d (ValueIdx.ix3 1 (j 0) (j 1))) (bkL_zero c).symm)

/-! ## The first two parts of the body -/

section Parts
variable (m ρ K c)
/-- The five operands' staging buffers alone. -/
def opnds5 : sProp 𝕄 :=
  iprop((((c : Thread nD τ).loc cc0_stg0_0) ↦{fullShare} xstg m ρ c) ∗ (((c : Thread nD τ).loc cc0_stg1_0) ↦{fullShare} wqstg m ρ c)
    ∗ (((c : Thread nD τ).loc cc0_stg2_0) ↦{fullShare} kstg m ρ c) ∗ (((c : Thread nD τ).loc cc0_stg3_0) ↦{fullShare} vstg m ρ c)
    ∗ (((c : Thread nD τ).loc cc0_stg4_0) ↦{fullShare} wostg m ρ c))
/-- What the body starts from. -/
def bodyPre (o : (cc0_stg5_0 : Ref sig .tc).ty.Contents (Elt F)) : sProp 𝕄 :=
  iprop(records m ρ K ∗ levAts L lv ∗ (∃ W, owes (c : Thread nD τ) (O₀ c) W) ∗ cred (tallyAt (barCell c) () 2) ∗ atPos ER (barCell c) 0 ∅ 0
    ∗ dutyTok ER (barCell (prv c)) 0 true ∗ dutyTok ER (barCell (nxt c)) 0 false
    ∗ LL (sendTok c) sendOrder ∗ LL (waitR c) recvOrder
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ opnds5 m ρ c ∗ outP c o)
/-- What goes through the handshake untouched. -/
def side (o : (cc0_stg5_0 : Ref sig .tc).ty.Contents (Elt F)) : sProp 𝕄 :=
  iprop((slotR c 0 ∗ slotR c 1 ∗ slotL c 0 ∗ slotL c 1)
    ∗ (∃ f : Buf (Elt F) ((c : Thread nD τ).loc cc0_scratch0), ((c : Thread nD τ).loc cc0_scratch0) ↦[Ring.restOf setR]{fullShare} f)
    ∗ (∃ f : Buf (Elt F) ((c : Thread nD τ).loc cc0_scratch1), ((c : Thread nD τ).loc cc0_scratch1) ↦[Ring.restOf setL]{fullShare} f)
    ∗ LL (sendTok c) sendOrder ∗ LL (waitR c) recvOrder ∗ opnds5 m ρ c ∗ outP c o)
/-- After the handshake, all but slot 0. -/
def shaken (o : (cc0_stg5_0 : Ref sig .tc).ty.Contents (Elt F)) : sProp 𝕄 :=
  iprop(records m ρ K ∗ levAts L lv ∗ owesU c sendOrder ∗ LL (unsent c) sendOrder ∗ LL (waitR c) recvOrder ∗ opnds m ρ c ∗ outP c o)
/-- The device's own two pieces of keys (`t = 0`) or values (`t = 1`). -/
def filledR (t : Fin 2) : sProp 𝕄 := iprop(pc m ρ fullShare (.inl (0, t, 0)) c ∗ pc m ρ fullShare (.inl (0, t, 1)) c)
def filledL (t : Fin 2) : sProp 𝕄 := iprop(pc m ρ fullShare (.inr (0, t, 0)) c ∗ pc m ρ fullShare (.inr (0, t, 1)) c)
variable {m ρ K c}
variable {o : (cc0_stg5_0 : Ref sig .tc).ty.Contents (Elt F)}

theorem bodyPre_split : bodyPre m ρ K c o ⊢ hsPre m ρ K c (side m ρ c o) := by
  unfold bodyPre hsPre side
  iintro ⟨#HR, #HL, HO, Hc, Ha, HtP, HtN, Hs, Hw, Hb0, Hb1, Hop, Hout⟩
  ihave H0 := splitR $$ Hb0
  ihave H1 := splitL $$ Hb1
  icases H0 with ⟨R0, R1, Rl, Rr⟩
  icases H1 with ⟨L0, L1, Ll, Lr⟩
  isplitr; · iexact HR
  isplitr; · iexact HL
  isplitl [HO]; · iexact HO
  isplitl [Hc]; · iexact Hc
  isplitl [Ha]; · iexact Ha
  isplitl [HtP]; · iexact HtP
  isplitl [HtN]; · iexact HtN
  isplitl [Rl]; · iexact Rl
  isplitl [Ll]; · iexact Ll
  isplitl [R0 R1 L0 L1]
  · isplitl [R0]; · iexact R0
    isplitl [R1]; · iexact R1
    isplitl [L0] <;> iassumption
  isplitl [Rr]; · iexact Rr
  isplitl [Lr]; · iexact Lr
  isplitl [Hs]; · iexact Hs
  isplitl [Hw]; · iexact Hw
  isplitl [Hop] <;> iassumption

theorem lands_eq : iprop(LL (fun e => land (dstP e) (nxt c)) edgesR ∗ LL (fun e => land (dstP e) (prv c)) edgesL)
    = (LL (fun e => land (dstP e) (nbr e c)) sendOrder : sProp 𝕄) := by
  rw [← LL_perm _ edges_perm, LL_append]; rfl

theorem shake_join : hsPost m ρ K c (side m ρ c o) ⊢ iprop(slotR c 0 ∗ slotR c 1 ∗ slotL c 0 ∗ slotL c 1 ∗ shaken m ρ K c o) := by
  unfold hsPost side shaken opnds kept opnds5 owesU O₂
  iintro ⟨HR, HL, HO, Hb, Rl, Ll, ⟨R0, R1, L0, L1⟩, Rr, Lr, Hs, Hw, ⟨A0, A1, A2, A3, A4⟩, Hout⟩
  isplitl [R0]; · iexact R0
  isplitl [R1]; · iexact R1
  isplitl [L0]; · iexact L0
  isplitl [L1]; · iexact L1
  isplitl [HR]; · iexact HR
  isplitl [HL]; · iexact HL
  isplitl [HO]; · iexact HO
  isplitl [Hs Rl Ll]
  · iapply (LL_join (sendTok c) (fun e => land (dstP e) (nbr e c)) sendOrder)
    isplitl [Hs]; · iexact Hs
    iapply (Entails.of_eq lands_eq)
    isplitl [Rl] <;> iassumption
  isplitl [Hw]; · iexact Hw
  isplitr [Hout]
  · isplitl [A0]; · iexact A0
    isplitl [A1]; · iexact A1
    isplitl [A2]; · iexact A2
    isplitl [A3]; · iexact A3
    isplitl [A4]; · iexact A4
    isplitl [Hb]; · iexact Hb
    isplitl [Rr] <;> iassumption
  iexact Hout

theorem hz4 : (![0, 0, 0, 0] : Fin 4 → Nat) = fun _ => 0 := funext fun a => by fin_cases a <;> rfl

def afterOne (m : (ℓ : Loc nD τ sig) → Buf (Elt F) ℓ) (ρ : Dev nD → PrngReg) (K : Dev nD × Option Ck → ℕ) (c : Dev nD) (o : (cc0_stg5_0 : Ref sig .tc).ty.Contents (Elt F)) : sProp 𝕄 :=
  iprop((slotR c 1 ∗ slotL c 0 ∗ slotL c 1 ∗ shaken m ρ K c o) ∗ filledR m ρ c 0)

theorem rot3 {X Y Z U V : sProp 𝕄} : iprop((X ∗ Y ∗ Z ∗ U) ∗ V) ⊢ iprop(X ∗ (Y ∗ Z ∗ U ∗ V)) := by
  iintro ⟨⟨H1, H2, H3, H4⟩, H5⟩
  isplitl [H1]; · iexact H1
  isplitl [H2]; · iexact H2
  isplitl [H3]; · iexact H3
  isplitl [H4] <;> iassumption
theorem rot2 {Y Z U V V' : sProp 𝕄} : iprop((Y ∗ Z ∗ U ∗ V) ∗ V') ⊢ iprop(Y ∗ (Z ∗ U ∗ V ∗ V')) := rot3

theorem St_one_intro : iprop((shaken m ρ K c o ∗ filledR m ρ c 0 ∗ filledR m ρ c 1 ∗ filledL m ρ c 0) ∗ filledL m ρ c 1) ⊢ St m ρ K c 0 o := by
  unfold shaken filledR filledL St Ex
  rw [show stgAt 0 = stg0 from rfl]
  unfold stg0
  dsimp only
  rw [show (parts.flatMap fun p => [.inl (0, p.1, p.2), .inr (0, p.1, p.2)] : List Pc)
    = [.inl (0, 0, 0), .inr (0, 0, 0), .inl (0, 1, 0), .inr (0, 1, 0), .inl (0, 0, 1), .inr (0, 0, 1), .inl (0, 1, 1), .inr (0, 1, 1)] from rfl]
  rw [LL_nil, LL_nil]
  repeat rw [LL_cons (fun p => pc m ρ fullShare p c)]
  rw [LL_nil]
  iintro ⟨⟨⟨HR, HL, HO, HU, HW, Hop, Hout⟩, ⟨R00, R01⟩, ⟨R10, R11⟩, L00, L01⟩, L10, L11⟩
  isplitl [HR HL HO HU HW R00 R01 R10 R11 L00 L01 L10 L11]
  · isplitl [HR]; · iexact HR
    isplitl [HL]; · iexact HL
    isplitl [HO]; · iexact HO
    isplitl [HU]; · iexact HU
    isplitl [HW]; · iexact HW
    isplitl [R00 R01 R10 R11 L00 L01 L10 L11]
    · isplitl [R00]; · iexact R00
      isplitl [L00]; · iexact L00
      isplitl [R10]; · iexact R10
      isplitl [L10]; · iexact L10
      isplitl [R01]; · iexact R01
      isplitl [L01]; · iexact L01
      isplitl [R11]; · iexact R11
      isplitl [L11]; · iexact L11
      iempintro
    isplitr <;> iempintro
  isplitl [Hop] <;> iassumption

theorem part1 : PartP c (bodyPre m ρ K c o) (afterOne m ρ K c o)
    (k0_part1 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5)
    ⟨c, v2 c, v5 c, v7 c, k0_pay1 (kstg m ρ c), k0_pay2 (vstg m ρ c)⟩ := by
  rw [k0_part1_eq_skeleton]
  unfold k0_part1_skel
  refine PartP.pre bodyPre_split ?_
  intro Q
  rw [lift_bind]
  unfold W
  rw [wp_deviceId]
  refine handshake (Fin.ext ?_) (Fin.ext ?_) ?_ Q
  · exact (k0_dev1_eq c).trans (by revert c; decide)
  · exact (k0_dev2_eq c).trans (by revert c; decide)
  refine PartP.pre shake_join ?_
  refine PartP.ofLoad fullShare Finset.univ (kstg m ρ c) (Finset.subset_univ _) (get_right (get_right (get_right (get_right (by
    unfold shaken opnds; exact get_right (get_right (get_right (get_right (get_right (get_left (get_right (get_right sep_get))))))))))))
    (v := kstg m ρ c) (Memref.readAt_unit_zero (Elt F) cc0_stg2_0 hz4 _ _) ?_
  refine PartP.ofLoad fullShare Finset.univ (vstg m ρ c) (Finset.subset_univ _) (get_right (get_right (get_right (get_right (by
    unfold shaken opnds; exact get_right (get_right (get_right (get_right (get_right (get_left (get_right (get_right (get_right sep_get)))))))))))))
    (v := vstg m ρ c) (Memref.readAt_unit_zero (Elt F) cc0_stg3_0 hz4 _ _) ?_
  exact PartP.loadStore (M := rM) (R := regR 0) (w := k0_pay3 (kstg m ρ c)) (setR (0, 0, 0) ∪ setR (0, 0, 1)) (regR_sub 0) (filledR m ρ c 0) (fun f => ownR 0 f) PartP.ret

theorem part2 : PartP c (afterOne m ρ K c o) (St m ρ K c 1 o)
    (k0_part2 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5
      c (v7 c) (k0_pay1 (kstg m ρ c)) (k0_pay2 (vstg m ρ c))) 1#32 := by
  rw [k0_part2_eq_skeleton]
  unfold k0_part2_skel
  unfold afterOne
  refine PartP.pre rot3 ?_
  refine PartP.loadStore (M := rM) (R := regR 1) (w := k0_pay4 (k0_pay2 (vstg m ρ c))) (setR (0, 1, 0) ∪ setR (0, 1, 1)) (regR_sub 1) (filledR m ρ c 1) (fun f => ownR 1 f) ?_
  refine PartP.pre rot3 ?_
  refine PartP.loadStore (M := lM) (R := regL 0) (w := k0_pay5 (k0_pay1 (kstg m ρ c))) (setL (0, 0, 0) ∪ setL (0, 0, 1)) (regL_sub 0) (filledL m ρ c 0) (fun f => ownL 0 f) ?_
  refine PartP.pre rot3 ?_
  refine PartP.loadStore (M := lM) (R := regL 1) (w := k0_pay6 (k0_pay2 (vstg m ρ c))) (setL (0, 1, 0) ∪ setL (0, 1, 1)) (regL_sub 1) (filledL m ρ c 1) (fun f => ownL 1 f) ?_
  refine PartP.pre St_one_intro ?_
  exact Part.send (.inl (0, 0, 0)) rfl (Fin.ext ((k0_dev3_eq c).trans (by revert c; decide))) Part.ret

/-- The whole body. -/
theorem body_part : PartP c (bodyPre m ρ K c o) (St m ρ K c 84 (outAt m ρ c o)) (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) ⟨⟩ :=
  walk_parts o part1 part2

end Parts

end Cert.KernelIdealRing
end
-- ==== Proof.Run.lean ====
/-
  From the body to the run of all eight devices: the pieces put back together, the launch's ghost state, and the run theorem.
-/
module

public import proofs.«01_k».proof.Proof.Entry
public import proofs.«01_k».proof.Proof.Gen.KernelIdeal.Points
public import Idealize.ShloMosaic.Lib.Pipeline.CollectiveSegs

@[expose] public section

set_option maxRecDepth 16384
set_option synthInstance.maxSize 4096

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The result's staging buffer -/

/-- The result's staging buffer at the end. -/
def outV (c : Dev nD) : (cc0_stg5_0 : Ref sig .tc).ty.Contents (Elt F) := fun (i : S2x256x512.Idx) =>
  if (i 0).val = 0 then out0 m ρ c (ValueIdx.ix3 0 (i 1) (i 2)) else out1 m ρ c (ValueIdx.ix3 0 (i 1) (i 2))

theorem write_out_in (r : Rect S2x256x512) (f : (cc0_stg5_0 : Ref sig .tc).ty.Contents (Elt F)) (w : r.shape.Idx → Elt F .f32) (z : r.shape.Idx) (i : S2x256x512.Idx)
    (h : r.emb z = i) : ((Memref.whole cc0_stg5_0 : Memref sig .tc _ _ _).access r).write (Elt F) f w Finset.univ i = w z := by
  subst h
  exact View.write_emb_of_mem (v := ((Memref.whole cc0_stg5_0 : Memref sig .tc _ _ _).access r)) f w (Finset.mem_univ z)
theorem write_out_off (r : Rect S2x256x512) (f : (cc0_stg5_0 : Ref sig .tc).ty.Contents (Elt F)) (w : r.shape.Idx → Elt F .f32) (i : S2x256x512.Idx)
    (h : i ∉ r.set) : ((Memref.whole cc0_stg5_0 : Memref sig .tc _ _ _).access r).write (Elt F) f w Finset.univ i = f i := by
  refine View.write_of_not_mem (v := ((Memref.whole cc0_stg5_0 : Memref sig .tc _ _ _).access r)) f w Finset.univ ?_
  rw [View.setOn_univ, show ((Memref.whole cc0_stg5_0 : Memref sig .tc _ _ _).access r).set = r.set from View.set_slice_whole cc0_stg5_0 r]
  exact h
theorem row_emb (k : ℕ) (hk : ∀ a, (![k, 0, 0] : Fin 3 → Nat) a + S1x256x512.size a ≤ S2x256x512.size a) (i : S2x256x512.Idx) (h : (i 0).val = k) :
    (Rect.unit (s := S2x256x512) ![k, 0, 0] S1x256x512.size hk).emb (ValueIdx.ix3 0 (i 1) (i 2)) = i := by
  funext a
  rw [← Fin.val_inj, Rect.emb_apply]
  fin_cases a
  · show k + 0 * 1 = (i 0).val; omega
  · show 0 + 1 * (i 1).val = (i 1).val; omega
  · show 0 + 1 * (i 2).val = (i 2).val; omega
theorem row_off (k : ℕ) (hk : ∀ a, (![k, 0, 0] : Fin 3 → Nat) a + S1x256x512.size a ≤ S2x256x512.size a) (i : S2x256x512.Idx) (h : (i 0).val < k) : i ∉ (Rect.unit (s := S2x256x512) ![k, 0, 0] S1x256x512.size hk).set := fun hi => by
  rw [Rect.mem_set_unit] at hi
  have h1 : k ≤ (i 0).val := (hi 0).1
  omega
theorem write_row (k : ℕ) (hk : ∀ a, (![k, 0, 0] : Fin 3 → Nat) a + S1x256x512.size a ≤ S2x256x512.size a) (f : (cc0_stg5_0 : Ref sig .tc).ty.Contents (Elt F)) (w : S1x256x512.Idx → Elt F .f32) (i : S2x256x512.Idx) (h : (i 0).val = k) :
    ((Memref.whole cc0_stg5_0 : Memref sig .tc _ _ _).access (Rect.unit (s := S2x256x512) ![k, 0, 0] S1x256x512.size hk)).write (Elt F) f w Finset.univ i
      = w (ValueIdx.ix3 0 (i 1) (i 2)) :=
  write_out_in (Rect.unit (s := S2x256x512) ![k, 0, 0] S1x256x512.size hk) f w (ValueIdx.ix3 0 (i 1) (i 2)) i (row_emb k hk i h)
theorem write_row_off (k : ℕ) (hk : ∀ a, (![k, 0, 0] : Fin 3 → Nat) a + S1x256x512.size a ≤ S2x256x512.size a) (f : (cc0_stg5_0 : Ref sig .tc).ty.Contents (Elt F)) (w : S1x256x512.Idx → Elt F .f32) (i : S2x256x512.Idx) (h : (i 0).val < k) :
    ((Memref.whole cc0_stg5_0 : Memref sig .tc _ _ _).access (Rect.unit (s := S2x256x512) ![k, 0, 0] S1x256x512.size hk)).write (Elt F) f w Finset.univ i = f i :=
  write_out_off (Rect.unit (s := S2x256x512) ![k, 0, 0] S1x256x512.size hk) f w i (row_off k hk i h)

theorem outAt_eq (c : Dev nD) (o : (cc0_stg5_0 : Ref sig .tc).ty.Contents (Elt F)) : outAt m ρ c o = outV m ρ c := by
  funext i
  have h2 : (i 0).val < 2 := (i 0).isLt
  unfold outAt outV
  by_cases h : (i 0).val = 0
  · rw [if_pos h]
    exact (write_row_off 1 inb_S2x256x512_S1x256x512_1_0_0 _ _ i (by omega)).trans (write_row 0 inb_S2x256x512_S1x256x512_0_0_0 _ _ i h)
  · rw [if_neg h]
    exact write_row 1 inb_S2x256x512_S1x256x512_1_0_0 _ _ i (by omega)

/-! ## The body's end -/

/-- Every piece, and every cell of a transfer. -/
def allPc : List Pc := (slot0R ++ lndR).map .inl ++ (slot0L ++ lndL).map .inr
def allCk : List Ck := sendOrder.map .inl ++ sendOrder.map .inr
theorem allCk_nodup : allCk.Nodup := by decide +kernel
theorem allCk_all (k : Ck) : k ∈ allCk := by
  unfold allCk
  rcases k with e | e
  · exact List.mem_append_left _ (List.mem_map_of_mem (sendOrder_all e))
  · exact List.mem_append_right _ (List.mem_map_of_mem (sendOrder_all e))

theorem end_lists : (stgAt 84).U = [] ∧ (stgAt 84).Wt = [] ∧ (stgAt 84).Fl = [] := ⟨by decide +kernel, by decide +kernel, by decide +kernel⟩
theorem end_pieces : (stgAt 84).Pf.Perm allPc := by decide +kernel
theorem end_cells : (stgAt 84).D.Perm allCk := by decide +kernel

section Body
variable (K : Dev nD × Option Ck → ℕ) (c : Dev nD)

/-- After the point: the exchange buffers at whatever they hold, and every cell closed. -/
def Φ₁ : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ semVal (barCell c) 0 ∗ LL (closed c) allCk)

theorem pc_land (p : Pc) : pc m ρ fullShare p c ⊢ land p c := by
  unfold pc land; iintro H; iexists _; iexact H

theorem pieces_back : iprop(LL (fun p => pc m ρ fullShare p c) allPc ∗ kept c) ⊢ iprop(semVal (barCell c) 0
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)) := by
  have h1 : LL (fun p => pc m ρ fullShare p c) allPc ⊢ iprop(bigSep Finset.univ (cutR F c) ∗ bigSep Finset.univ (cutL F c)) := by
    refine (LL_mono (pc_land m ρ c) allPc).trans (Entails.of_eq ?_)
    unfold allPc
    rw [LL_append, LL_map, LL_map, show (fun p => land (Sum.inl p) c) = cutR F c from funext fun p => (cutR_land p).symm,
      show (fun p => land (Sum.inr p) c) = cutL F c from funext fun p => (cutL_land p).symm,
      ← LL_univ (cutR F c) _ allR_nodup allR_all, ← LL_univ (cutL F c) _ allL_nodup allL_all]
  unfold kept
  iintro ⟨H, Hb, Rr, Lr⟩
  ihave H := h1 $$ H
  icases H with ⟨HR, HL⟩
  isplitl [Hb]; · iexact Hb
  isplitl [HR Rr]
  · iapply (Ring.fam_join (ℓ := (c : Thread nD τ).loc cc0_scratch0) setR setR_disj (m ((c : Thread nD τ).loc cc0_scratch0)))
    unfold cutR
    isplitl [HR] <;> iassumption
  · iapply (Ring.fam_join (ℓ := (c : Thread nD τ).loc cc0_scratch1) setL setL_disj (m ((c : Thread nD τ).loc cc0_scratch1)))
    unfold cutL
    isplitl [HL] <;> iassumption

theorem body_end (o : (cc0_stg5_0 : Ref sig .tc).ty.Contents (Elt F)) :
    St m ρ K c 84 o ⊢ iprop(Φ₁ c ∗ (∃ W, owes (c : Thread nD τ) 0 W) ∗ opnds5 m ρ c ∗ outP c o) := by
  unfold St Ex
  obtain ⟨hU, hW, hF⟩ := end_lists
  rw [hU, hW, hF, LL_perm (fun p => pc m ρ fullShare p c) end_pieces, LL_perm (closed c) end_cells]
  unfold opnds opnds5 Φ₁ owesU
  rw [show owedL c [] = 0 from rfl]
  iintro ⟨⟨-, -, HO, -, -, HP, -, HD⟩, ⟨A0, A1, A2, A3, A4, HK⟩, Hout⟩
  ihave H := (pieces_back m ρ c) $$ [HP HK]
  · isplitl [HP] <;> iassumption
  icases H with ⟨Hb, B0, B1⟩
  isplitl [B0 B1 Hb HD]
  · isplitl [B0]; · iexact B0
    isplitl [B1]; · iexact B1
    isplitl [Hb] <;> iassumption
  isplitl [HO]; · iexact HO
  isplitr [Hout]
  · isplitl [A0]; · iexact A0
    isplitl [A1]; · iexact A1
    isplitl [A2]; · iexact A2
    isplitl [A3] <;> iassumption
  iexact Hout

/-! ## The pipeline's proof data -/

/-- The ghost state device `c` starts from. -/
def ghost : sProp 𝕄 :=
  iprop(records m ρ K ∗ atPos ER (barCell c) 0 ∅ 0 ∗ dutyTok ER (barCell (prv c)) 0 true ∗ dutyTok ER (barCell (nxt c)) 0 false
    ∗ LL (sendTok c) sendOrder ∗ LL (fun e => atPos ER (recvCell e c) 0 ∅ 0) recvOrder)
end Body

/-- With its credits and the levels. -/
def start (c : Dev nD) : sProp 𝕄 :=
  iprop((∃ K, ghost m ρ K c) ∗ cred (tallyAt (barCell c) () 2) ∗ LL (fun e => cred (tallyAt (recvCell e c) () N)) recvOrder ∗ levAts L lv)
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def preW (c : Dev nD) : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def postW (c : Dev nD) : sProp 𝕄 :=
  iprop(Φ₁ c ∗ (dats m ρ 0 c).owesAt () t0_0.succ ∗ stg c cc0_stg0_0 (xstg m ρ c) ∗ stg c cc0_stg1_0 (wqstg m ρ c) ∗ stg c cc0_stg2_0 (kstg m ρ c)
    ∗ stg c cc0_stg3_0 (vstg m ρ c) ∗ stg c cc0_stg4_0 (wostg m ρ c) ∗ stg c cc0_stg5_0 (outV m ρ c))

theorem preW_split (c : Dev nD) : preW m ρ c ⊢ iprop(∃ K o, bodyPre m ρ K c o) := by
  unfold preW Φ₀ start ghost Dat.owesAt Pipeline.owesWithin
  rw [show (dats m ρ 0 c).owed t0_0.castSucc = O₀ c from rfl]
  iintro ⟨⟨⟨⟨%K, HR, Ha, HtP, HtN, Hs, Hat⟩, Hc, Hcr, Hlev⟩, B0, B1⟩, ⟨%W, %hW, HO⟩, ⟨%d0, %g0, %h0, A0⟩, ⟨%d1, %g1, %h1, A1⟩, ⟨%d2, %g2, %h2, A2⟩, ⟨%d3, %g3, %h3, A3⟩, ⟨%d4, %g4, %h4, A4⟩, ⟨%d5, %g5, %h5, A5⟩⟩
  have e0 : g0 = xstg m ρ c := by rw [h0]; unfold Dat.before; rw [if_pos (fetch0_0 t0_0)]; rfl
  have e1 : g1 = wqstg m ρ c := by rw [h1]; unfold Dat.before; rw [if_pos (fetch0_1 t0_0)]; rfl
  have e2 : g2 = kstg m ρ c := by rw [h2]; unfold Dat.before; rw [if_pos (fetch0_2 t0_0)]; rfl
  have e3 : g3 = vstg m ρ c := by rw [h3]; unfold Dat.before; rw [if_pos (fetch0_3 t0_0)]; rfl
  have e4 : g4 = wostg m ρ c := by rw [h4]; unfold Dat.before; rw [if_pos (fetch0_4 t0_0)]; rfl
  subst e0 e1 e2 e3 e4
  iexists K, g5
  unfold bodyPre opnds5 outP
  isplitl [HR]; · iexact HR
  isplitl [Hlev]; · iexact Hlev
  isplitl [HO]; · iexists W; iexact HO
  isplitl [Hc]; · iexact Hc
  isplitl [Ha]; · iexact Ha
  isplitl [HtP]; · iexact HtP
  isplitl [HtN]; · iexact HtN
  isplitl [Hs]; · iexact Hs
  isplitl [Hcr Hat]
  · iapply (LL_join (fun e => cred (tallyAt (recvCell e c) () N)) (fun e => atPos ER (recvCell e c) 0 ∅ 0) recvOrder)
    isplitl [Hcr] <;> iassumption
  isplitl [B0]; · iexact B0
  isplitl [B1]; · iexact B1
  isplitr [A5]
  · isplitl [A0]; · iexact A0
    isplitl [A1]; · iexact A1
    isplitl [A2]; · iexact A2
    isplitl [A3] <;> iassumption
  iexact A5

theorem postW_join (K : Dev nD × Option Ck → ℕ) (c : Dev nD) (o : (cc0_stg5_0 : Ref sig .tc).ty.Contents (Elt F)) :
    St m ρ K c 84 (outAt m ρ c o) ⊢ postW m ρ c := by
  rw [outAt_eq]
  refine (body_end m ρ K c _).trans ?_
  unfold postW opnds5 outP Dat.owesAt Pipeline.owesWithin
  rw [show (dats m ρ 0 c).owed t0_0.succ = 0 from rfl]
  iintro ⟨HΦ, ⟨%W, HO⟩, ⟨A0, A1, A2, A3, A4⟩, A5⟩
  isplitl [HΦ]; · iexact HΦ
  isplitl [HO]
  · iexists W; isplitr; · ipureintro; exact fun _ _ => Or.inl trivial
    iexact HO
  isplitl [A0]; · iexists _; isplitr; · (ipureintro; rfl)
                  iexact A0
  isplitl [A1]; · iexists _; isplitr; · (ipureintro; rfl)
                  iexact A1
  isplitl [A2]; · iexists _; isplitr; · (ipureintro; rfl)
                  iexact A2
  isplitl [A3]; · iexists _; isplitr; · (ipureintro; rfl)
                  iexact A3
  isplitl [A4]; · iexists _; isplitr; · (ipureintro; rfl)
                  iexact A4
  iexists _; isplitr; · (ipureintro; rfl)
  iexact A5

set_option maxRecDepth 65536 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show preW m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) (fun _ => postW m ρ c)
  refine (preW_split m ρ c).trans ?_
  iintro ⟨%K, %o, H⟩
  iapply (body_part (m := m) (ρ := ρ) (K := K) (c := c) (o := o) (fun _ => postW m ρ c)) $$ H
  iintro H
  iapply (postW_join m ρ K c o); iexact H

/-! ## The launch -/

theorem stage_lt : ∀ (w : Fin cfg0.W) (s : Fin (cfg0.spec w).nbuf), ((cfg0.spec w).sem s).val < 6 := by decide
theorem ownSemFacts : Pipeline.OwnSemFacts cfg0.spec osem where
  isScoped k := by
    rcases k with (⟨h, t, b⟩ | ⟨h, t, b⟩) | (⟨h, t, b⟩ | ⟨h, t, b⟩) <;> revert h t b <;> decide
  inj a b h := ckQ_inj (SemLoc.dma.inj h)
  disj k w s := fun h => by
    have h1 := ckQ_ge k
    have h2 : ckQ k = (cfg0.spec w).sem s := SemLoc.dma.inj h
    have h3 : ((cfg0.spec w).sem s).val < 6 := stage_lt w s
    rw [h2] at h1
    omega

theorem share_eq (c : Dev nD) (w : Fin cfg0.W) : (dats m ρ 0 c).share w = fullShare := by unfold Dat.share; split <;> rfl

theorem csem_inj : Function.Injective csem := by
  rintro (_ | a) (_ | b) h
  · rfl
  · cases h
  · cases h
  · exact congrArg some (ckQ_inj (SemLoc.dma.inj h))
theorem kcell_injective : Function.Injective (kcell : Dev nD × Option Ck → GSem nD τ sig) := by
  rintro ⟨c, k⟩ ⟨c', k'⟩ h
  have h1 : c = c' := congrArg (fun g : GSem nD τ sig => g.1.1) h
  have h2 : csem k = csem k' := congrArg Prod.snd h
  exact Prod.ext h1 (csem_inj h2)
def ringCells : Finset (GSem nD τ sig) := Finset.univ.map ⟨kcell, kcell_injective⟩

/-- A device's own cells' duty tokens as minted: its barrier's two, one of every other cell. -/
abbrev Tk : Type := Bool ⊕ Ck
def tokOf (x : Dev nD × Tk) : GSem nD τ sig × ℕ × Bool := match x.2 with
  | .inl b => (barCell x.1, 0, b)
  | .inr k => (kcell (x.1, some k), 0, false)
theorem tokOf_injective : Function.Injective tokOf := by
  rintro ⟨c, a | a⟩ ⟨c', b | b⟩ h
  · have h1 : c = c' := congrArg (fun g : GSem nD τ sig × ℕ × Bool => g.1.1.1) h
    have h2 : a = b := congrArg (fun g : GSem nD τ sig × ℕ × Bool => g.2.2) h
    rw [h1, h2]
  · have h2 : (SemLoc.reg barS : SemLoc sig) = .dma (ckQ b) := congrArg (fun g : GSem nD τ sig × ℕ × Bool => g.1.2) h
    cases h2
  · have h2 : (SemLoc.dma (ckQ a) : SemLoc sig) = .reg barS := congrArg (fun g : GSem nD τ sig × ℕ × Bool => g.1.2) h
    cases h2
  · have h1 : kcell (c, some a) = kcell (c', some b) := congrArg (fun g : GSem nD τ sig × ℕ × Bool => g.1) h
    have h2 := kcell_injective h1
    have h3 : c = c' := congrArg Prod.fst h2
    have h4 : a = b := Option.some.inj (congrArg Prod.snd h2)
    rw [h3, h4]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ LL (fun e => dutyTok ER (sendCell e c) 0 false) sendOrder ∗ LL (fun e => dutyTok ER (recvCell e c) 0 false) sendOrder)

/-- One assertion for every cell of a device. -/
theorem cells_list (Φ : Option Ck → sProp 𝕄) : bigSep Finset.univ Φ
    = iprop(Φ none ∗ LL (fun e => Φ (some (.inl e))) sendOrder ∗ LL (fun e => Φ (some (.inr e))) sendOrder) := by
  rw [LL_univ Φ (none :: allCk.map some)
    (List.nodup_cons.mpr ⟨by simp, allCk_nodup.map (Option.some_injective _)⟩)
    (fun o => by
      cases o with
      | none => exact List.mem_cons_self ..
      | some k => exact List.mem_cons_of_mem _ (List.mem_map_of_mem (allCk_all k)))]
  unfold allCk
  rw [LL_cons, LL_map, LL_append, LL_map, LL_map]
theorem toks_list (Φ : Tk → sProp 𝕄) : bigSep Finset.univ Φ
    = iprop((Φ (.inl false) ∗ Φ (.inl true)) ∗ LL (fun e => Φ (.inr (.inl e))) sendOrder ∗ LL (fun e => Φ (.inr (.inr e))) sendOrder) := by
  rw [BI.bigSep_univ_sum, bigSep_univ_eq_bigSepL [false, true] (by decide) (by decide), bigSepL_cons_cons, bigSepL_singleton,
    LL_univ (fun k => Φ (.inr k)) allCk allCk_nodup allCk_all]
  unfold allCk
  rw [LL_append, LL_map, LL_map]; rfl

/-- What the launch element deals device `c`. -/
def G (c : Dev nD) : sProp 𝕄 :=
  iprop((bigSep Finset.univ fun k : Option Ck => roundState ER (ringRd m ρ) (kcell (c, k)) 0)
    ∗ (bigSep Finset.univ fun k : Option Ck => iprop(atPos ER (kcell (c, k)) 0 ∅ 0 ∗ reached ER (kcell (c, k)) 0)) ∗ toks c)
/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [toks_list]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = LL (closed c) allCk := by
  unfold Pipeline.ownSems0; exact LL_univ (closed c) allCk allCk_nodup allCk_all
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Ck => semVal (kcell (c, k)) 0 : sProp 𝕄) := by
  rw [ownSems0_eq, unscopedSems0_eq, cells_list]
  unfold allCk
  rw [LL_append, LL_map, LL_map]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Ck => semVal (kcell (c, k)) 0) ∗ bigSep Finset.univ fun k : Option Ck => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 :=
  iprop((bigSep Finset.univ fun k : Option Ck => atPos ER (kcell (c, k)) 0 ∅ 0)
    ∗ (dutyTok ER (barCell (nxt c)) 0 false ∗ dutyTok ER (barCell (prv c)) 0 true)
    ∗ LL (fun e => dutyTok ER (sendCell e c) 0 false) sendOrder ∗ LL (fun e => dutyTok ER (recvCell e (nbr e c)) 0 false) sendOrder)

theorem orders_perm : sendOrder.Perm recvOrder := by decide

theorem ghost_intro (K : Dev nD × Option Ck → ℕ) (c : Dev nD) : iprop(records m ρ K ∗ linear c) ⊢ G' m ρ c := by
  unfold linear G' ghost
  rw [cells_list]
  iintro ⟨#HR, ⟨HaB, HaS, HaV⟩, ⟨HtN, HtP⟩, HtS, HtV⟩
  iexists K
  isplitr; · iexact HR
  isplitl [HaB]; · iexact HaB
  isplitl [HtP]; · iexact HtP
  isplitl [HtN]; · iexact HtN
  isplitl [HaS HtS HtV]
  · iapply (LL_join (fun e => dutyTok ER (sendCell e c) 0 false) (fun e => iprop(dutyTok ER (recvCell e (nbr e c)) 0 false ∗ atPos ER (sendCell e c) 0 ∅ 0)) sendOrder)
    isplitl [HtS]; · iexact HtS
    iapply (LL_join (fun e => dutyTok ER (recvCell e (nbr e c)) 0 false) (fun e => atPos ER (sendCell e c) 0 ∅ 0) sendOrder)
    isplitl [HtV]; · iexact HtV
    iexact HaS
  iapply (Entails.of_eq (LL_perm (fun e => (atPos ER (recvCell e c) 0 ∅ 0 : sProp 𝕄)) orders_perm)); iexact HaV

/-- A list at every device is, for every member, all devices. -/
theorem LL_swap {A : Type} (Φ : Dev nD → A → sProp 𝕄) : ∀ l : List A,
    (bigSep Finset.univ fun c : Dev nD => LL (Φ c) l) = LL (fun a => bigSep Finset.univ fun c : Dev nD => Φ c a) l
  | [] => by
    rw [LL_nil, show (fun c : Dev nD => LL (Φ c) ([] : List A)) = fun _ => (iprop(emp) : sProp 𝕄) from rfl]
    exact BI.Entails.antisymm (show (bigSep Finset.univ fun _ : Dev nD => (iprop(emp) : sProp 𝕄)) ⊢ iprop(emp) from by iintro -; iempintro)
      (BI.bigSep_of_persistent Finset.univ iprop(emp))
  | a :: l => by
    rw [LL_cons, ← LL_swap Φ l, ← bigSep_sep']; rfl

/-- A transfer's receive tokens, dealt to the devices that pay them. -/
theorem recv_around (e : Tr) : (bigSep Finset.univ fun c : Dev nD => (dutyTok ER (recvCell e c) 0 false : sProp 𝕄))
    = bigSep Finset.univ fun c : Dev nD => dutyTok ER (recvCell e (nbr e c)) 0 false := by
  rcases e with e | e
  · exact bigSep_univ_equiv ring (fun c : Dev nD => (dutyTok ER (recvCell (.inl e) c) 0 false : sProp 𝕄))
  · exact bigSep_univ_equiv ring.symm (fun c : Dev nD => (dutyTok ER (recvCell (.inr e) c) 0 false : sProp 𝕄))

theorem toks_around : (bigSep Finset.univ fun c : Dev nD => (toks c : sProp 𝕄)) ⊢ bigSep Finset.univ fun c : Dev nD =>
    iprop((dutyTok ER (barCell (nxt c)) 0 false ∗ dutyTok ER (barCell (prv c)) 0 true)
      ∗ LL (fun e => dutyTok ER (sendCell e c) 0 false) sendOrder ∗ LL (fun e => dutyTok ER (recvCell e (nbr e c)) 0 false) sendOrder) := by
  unfold toks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    LL_swap (fun c e => dutyTok ER (recvCell e c) 0 false), LL_swap (fun c e => dutyTok ER (recvCell e (nbr e c)) 0 false),
    show (fun e => bigSep Finset.univ fun c : Dev nD => (dutyTok ER (recvCell e c) 0 false : sProp 𝕄))
      = fun e => bigSep Finset.univ fun c : Dev nD => dutyTok ER (recvCell e (nbr e c)) 0 false from funext recv_around]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_all : (bigSep Finset.univ fun c : Dev nD => (linear c : sProp 𝕄))
    = iprop((bigSep Finset.univ fun c : Dev nD => bigSep Finset.univ fun k : Option Ck => atPos ER (kcell (c, k)) 0 ∅ 0)
      ∗ bigSep Finset.univ fun c : Dev nD => iprop((dutyTok ER (barCell (nxt c)) 0 false ∗ dutyTok ER (barCell (prv c)) 0 true)
        ∗ LL (fun e => dutyTok ER (sendCell e c) 0 false) sendOrder ∗ LL (fun e => dutyTok ER (recvCell e (nbr e c)) 0 false) sendOrder)) := by
  unfold linear; exact bigSep_sep' _ _ _

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option Ck => iprop(∃ κ : ℕ, cellInv ER (ringRd m ρ) κ (kcell ck))),
    bigSep_congr (s := Finset.univ) (fun (c : Dev nD) _ => bigSep_sep' Finset.univ (fun k : Option Ck => (atPos ER (kcell (c, k)) 0 ∅ 0 : sProp 𝕄)) (fun k => reached ER (kcell (c, k)) 0)),
    bigSep_sep', ← bigSep_univ_prod (fun ck : Dev nD × Option Ck => (reached ER (kcell ck) 0 : sProp 𝕄))]
  iintro ⟨HI, ⟨Hat, #HR⟩, Htok⟩
  ihave HK := (BI.bigSep_exists_pi Finset.univ (fun (ck : Dev nD × Option Ck) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (linear_all (F := F)).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {e e' : Tr} {a b : Dev nD} : Iff (recvCell e a = recvCell e' b) (e = e' ∧ a = b) :=
  ⟨fun h => by
    have h2 := kcell_injective (show kcell (a, some (.inr e)) = kcell (b, some (.inr e')) from h)
    exact ⟨Sum.inr.inj (Option.some.inj (congrArg Prod.snd h2)), congrArg Prod.fst h2⟩, fun ⟨h1, h2⟩ => by rw [h1, h2]⟩
theorem recv_ne_bar {e : Tr} {a b : Dev nD} : recvCell e a ≠ barCell b := fun h => by
  have : (SemLoc.dma (recvQ e) : SemLoc sig) = .reg barS := congrArg Prod.snd h
  cases this

theorem owedL_bar (d c : Dev nD) : ∀ U : List Tr, owedL d U (barCell c) () = 0
  | [] => rfl
  | e :: U => by
    unfold owedL
    rw [Pi.add_apply, Finsupp.add_apply, owedL_bar d c U, tallyAt_ne_cell (fun h => recv_ne_bar h.symm), Finsupp.zero_apply, Nat.add_zero]

/-- What device `d` owes device `c`'s barrier cell. -/
theorem owed_bar (d c : Dev nD) : O₀ d (barCell c) () = (if d = prv c then 1 else 0) + (if d = nxt c then 1 else 0) := by
  unfold O₀ O₁ O₂
  rw [Pi.add_apply, Finsupp.add_apply, Pi.add_apply, Finsupp.add_apply, owedL_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem owedL_not_mem (d c : Dev nD) (e : Tr) : ∀ U : List Tr, e ∉ U → owedL d U (recvCell e c) () = 0
  | [], _ => rfl
  | e' :: U, h => by
    unfold owedL
    rw [Pi.add_apply, Finsupp.add_apply, owedL_not_mem d c e U (fun h' => h (List.mem_cons_of_mem _ h')),
      tallyAt_ne_cell (fun h' => h (by rw [(recv_eq_iff.mp h').1]; exact List.mem_cons_self ..)), Finsupp.zero_apply, Nat.add_zero]
theorem owedL_mem (d c : Dev nD) (e : Tr) : ∀ U : List Tr, U.Nodup → e ∈ U → owedL d U (recvCell e c) () = if d = nbi e c then N else 0
  | [], _, h => absurd h List.not_mem_nil
  | e' :: U, hn, h => by
    obtain ⟨h1, h2⟩ := List.nodup_cons.mp hn
    unfold owedL
    rw [Pi.add_apply, Finsupp.add_apply]
    by_cases he : e = e'
    · subst he
      rw [owedL_not_mem d c e U h1, Nat.zero_add, tallyAt_apply]
      by_cases hd : d = nbi e c
      · subst hd; rw [nbr_nbi, if_pos ⟨rfl, rfl⟩, if_pos rfl]
      · rw [if_neg (fun ⟨h', _⟩ => hd (by rw [← nbi_nbr e d]; exact congrArg (nbi e) (recv_eq_iff.mp h').2.symm)), if_neg hd]
    · rw [owedL_mem d c e U h2 ((List.mem_cons.mp h).resolve_left he), tallyAt_ne_cell (fun h' => he (recv_eq_iff.mp h').1), Finsupp.zero_apply, Nat.add_zero]
theorem owed_recv (d c : Dev nD) (e : Tr) : O₀ d (recvCell e c) () = if d = nbi e c then N else 0 := by
  unfold O₀ O₁ O₂
  rw [Pi.add_apply, Finsupp.add_apply, Pi.add_apply, Finsupp.add_apply, owedL_mem d c e sendOrder sendOrder_nodup (sendOrder_all e),
    tallyAt_ne_cell recv_ne_bar, tallyAt_ne_cell recv_ne_bar, Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (c : Dev nD) (e : Tr) :
    tallyOn (recvCell e c) (launchCredit (Pipeline.owing O₀) 0 (recvCell e c)) = (tallyAt (recvCell e c) () N : CellTallies nD τ sig Unit) := by
  unfold tallyAt; refine congrArg _ (Finsupp.ext fun u => ?_); cases u
  rw [Pipeline.launchCredit_owing, Finsupp.single_eq_same, Finset.sum_congr rfl fun d _ => owed_recv d c e, Finset.sum_ite_eq' Finset.univ (nbi e c) fun _ => N,
    if_pos (Finset.mem_univ _)]

/-- The cells a device holds launch credit of. -/
def credCells : List (SemLoc sig) := .reg barS :: recvOrder.map fun e => .dma (recvQ e)
theorem credCells_nodup : credCells.Nodup :=
  List.nodup_cons.mpr ⟨by simp, recvOrder_nodup.map fun a b h => Sum.inr.inj (ckQ_inj (SemLoc.dma.inj h))⟩

theorem creds (c : Dev nD) :
    (Pipeline.launchCred O₀ c : sProp 𝕄) ⊢ iprop(cred (tallyAt (barCell c) () 2) ∗ LL (fun e => cred (tallyAt (recvCell e c) () N)) recvOrder) := by
  unfold Pipeline.launchCred
  refine (BI.bigSep_subset (Finset.subset_univ credCells.toFinset)).trans ?_
  rw [bigSep_toFinset _ _ credCells_nodup]
  unfold credCells
  rw [LL_cons, LL_map, launch_bar]
  refine BI.sep_mono (BI.Entails.refl _) (LL_mono (fun e => ?_) _)
  rw [← launch_recv]

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨B0, B1, HzB, HD⟩
  isplitl [HzB]; · iexact HzB
  isplitl [HD]; · iexact HD
  isplitl [B0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the eight devices terminates with every array at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The arguments after the run. -/
theorem args_kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

end Cert.KernelIdealRing
end
-- ==== Proof.Att.lean ====
/-
  Block-causal attention over the extended reals: the function that both programs compute, and the identity that
  normalising by the row's sum first, after the row's largest score is taken off, is the same as dividing at the end.
-/
module

public import Idealize.ShloMosaic.Lib.Pointwise

@[expose] public section

noncomputable section

namespace Cert.Att

open Idealize.ShloMosaic

/-! ## Rows of a masked softmax -/

theorem sum_mul_real {ι : Type} (S : Finset ι) (f : ι → EReal) (r : ℝ) (hr : 0 ≤ r) : (∑ j ∈ S, f j) * (r : EReal) = ∑ j ∈ S, f j * (r : EReal) := by
  classical
  induction S using Finset.induction_on with
  | empty => simp
  | insert a S ha ih =>
    rw [Finset.sum_insert ha, Finset.sum_insert ha, ← ih]
    exact EReal.right_distrib_of_nonneg_of_ne_top (EReal.coe_nonneg.mpr hr) (EReal.coe_ne_top r) _ _

theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

section Row
variable {ι : Type} [Fintype ι] (p : ι → Prop) [DecidablePred p] (s : ι → ℝ)

/-- A row's masked scores, and their exponentials. -/
def msc (j : ι) : EReal := if p j then (s j : EReal) else ⊥
def mex (j : ι) : ℝ := if p j then Real.exp (s j) else 0

theorem mex_coe (j : ι) : (if p j then Ideal.exp (s j : EReal) else 0) = ((mex p s j : ℝ) : EReal) := by
  unfold mex; split <;> simp

theorem max_real (hp : ∃ j, p j) : ∃ M : ℝ, Finset.univ.fold max (⊥ : EReal) (msc p s) = (M : EReal) := by
  obtain ⟨j0, h0⟩ := hp
  have hs : Finset.univ.fold max (⊥ : EReal) (msc p s) = Finset.univ.sup (msc p s) := rfl
  obtain ⟨j1, -, h1⟩ := Finset.exists_mem_eq_sup (Finset.univ : Finset ι) ⟨j0, Finset.mem_univ _⟩ (msc p s)
  have hle : msc p s j0 ≤ msc p s j1 := h1 ▸ Finset.le_sup (Finset.mem_univ j0)
  have hp1 : p j1 := by
    by_contra hn
    unfold msc at hle
    rw [if_pos h0, if_neg hn] at hle
    exact EReal.coe_ne_bot _ (le_bot_iff.mp hle)
  exact ⟨s j1, by rw [hs, h1]; unfold msc; rw [if_pos hp1]⟩

theorem exp_shift (M : ℝ) (j : ι) : Ideal.exp (msc p s j - (M : EReal)) = ((mex p s j * Real.exp (-M) : ℝ) : EReal) := by
  unfold msc mex
  split
  · rw [← EReal.coe_sub, Ideal.exp_coe, sub_eq_add_neg, Real.exp_add]
  · rw [zero_mul]; simp

theorem mex_sum_pos (hp : ∃ j, p j) : 0 < ∑ j, mex p s j := by
  obtain ⟨j0, h0⟩ := hp
  refine Finset.sum_pos' (fun j _ => ?_) ⟨j0, Finset.mem_univ _, ?_⟩
  · unfold mex; split
    · exact (Real.exp_pos _).le
    · exact le_refl _
  · unfold mex; rw [if_pos h0]; exact Real.exp_pos _

/-- Normalised first, with the largest score taken off, or divided at the end: one value. -/
theorem softmax_row (hp : ∃ j, p j) (v : ι → EReal) :
    ∑ j, v j * Ideal.div (Ideal.exp (msc p s j - Finset.univ.fold max (⊥ : EReal) (msc p s)))
        (∑ k, Ideal.exp (msc p s k - Finset.univ.fold max (⊥ : EReal) (msc p s)))
      = Ideal.div (∑ j, (if p j then Ideal.exp (s j : EReal) else 0) * v j) (∑ k, if p k then Ideal.exp (s k : EReal) else 0) := by
  obtain ⟨M, hM⟩ := max_real p s hp
  have hD := mex_sum_pos p s hp
  have hc : (0 : ℝ) < Real.exp (-M) := Real.exp_pos _
  simp only [hM, exp_shift, mex_coe]
  rw [← coe_sum, ← coe_sum, ← Finset.sum_mul, Ideal.div_coe hD.ne', sum_mul_real _ _ _ (by positivity)]
  refine Finset.sum_congr rfl fun j _ => ?_
  rw [Ideal.div_coe (mul_pos hD hc).ne', ← EReal.coe_mul, mul_comm (v j), mul_right_comm ((mex p s j : ℝ) : EReal), ← EReal.coe_mul]
  congr 2
  field_simp
end Row

/-! ## The function -/

/-- Head `h`'s column `d` of the 256. -/
def hd (h : Fin 4) (d : Fin 64) : Fin 256 := ⟨h.val * 64 + d.val, by omega⟩

variable (X : Fin 2 → Fin 2048 → Fin 512 → EReal) (WQ : Fin 512 → Fin 256 → EReal) (K V : Fin 2 → Fin 2048 → Fin 4 → Fin 64 → EReal) (WO : Fin 256 → Fin 512 → EReal)

/-- Queries, scores, and the exponentials of the scores that block causality keeps. -/
def qry (b : Fin 2) (i : Fin 2048) (n : Fin 256) : EReal := ∑ k, X b i k * WQ k n
def sco (b : Fin 2) (h : Fin 4) (i j : Fin 2048) : EReal := (∑ d, qry X WQ b i (hd h d) * K b j h d) * Ideal.ofBits .f32 0x3E000000#32
def keeps (i j : Fin 2048) : Prop := j.val / 64 ≤ i.val / 64
instance (i j : Fin 2048) : Decidable (keeps i j) := inferInstanceAs (Decidable (_ ≤ _))
def wei (b : Fin 2) (h : Fin 4) (i j : Fin 2048) : EReal := if keeps i j then Ideal.exp (sco X WQ K b h i j) else 0
/-- One head's output, and the whole result. -/
def att (b : Fin 2) (i : Fin 2048) (h : Fin 4) (d : Fin 64) : EReal :=
  Ideal.div (∑ j, wei X WQ K b h i j * V b j h d) (∑ j, wei X WQ K b h i j)
def res (b : Fin 2) (i : Fin 2048) (n : Fin 512) : EReal :=
  ∑ k : Fin 256, att X WQ K V b i ⟨k.val / 64, by omega⟩ ⟨k.val % 64, by omega⟩ * WO k n

/-! ### Finite arguments have finite scores -/

/-- Neither infinity. -/
def fin (x : EReal) : Prop := ∃ r : ℝ, x = (r : EReal)
theorem fin_mul {x y : EReal} : fin x → fin y → fin (x * y) := fun ⟨a, ha⟩ ⟨b, hb⟩ => ⟨a * b, by rw [ha, hb, EReal.coe_mul]⟩
theorem fin_sum {ι : Type} (S : Finset ι) (f : ι → EReal) (h : ∀ j, fin (f j)) : fin (∑ j ∈ S, f j) := by
  choose g hg using h
  exact ⟨∑ j ∈ S, g j, by rw [coe_sum]; exact Finset.sum_congr rfl fun j _ => hg j⟩
theorem fin_eighth : fin (Ideal.ofBits .f32 0x3E000000#32) := by
  refine ⟨1 / 8, ?_⟩
  simp [Ideal.ofBits, Ideal.ieee, -EReal.coe_mul]; norm_num
theorem fin_sco (hX : ∀ b i k, fin (X b i k)) (hW : ∀ k n, fin (WQ k n)) (hK : ∀ b j h d, fin (K b j h d)) (b : Fin 2) (h : Fin 4) (i j : Fin 2048) :
    fin (sco X WQ K b h i j) :=
  fin_mul (fin_sum _ _ fun d => fin_mul (fin_sum _ _ fun k => fin_mul (hX b i k) (hW k _)) (hK b j h d)) fin_eighth

/-- One head's output as the reference writes it. -/
theorem att_eq (hX : ∀ b i k, fin (X b i k)) (hW : ∀ k n, fin (WQ k n)) (hK : ∀ b j h d, fin (K b j h d)) (b : Fin 2) (i : Fin 2048) (h : Fin 4) (d : Fin 64)
    (S : Fin 2048 → EReal) (hS : ∀ j, S j = if keeps i j then sco X WQ K b h i j else ⊥) :
    ∑ j, V b j h d * Ideal.div (Ideal.exp (S j - Finset.univ.fold max (⊥ : EReal) S)) (∑ k, Ideal.exp (S k - Finset.univ.fold max (⊥ : EReal) S))
      = att X WQ K V b i h d := by
  choose s hs using fin_sco X WQ K hX hW hK b h i
  have hS' : S = msc (keeps i) s := funext fun j => by rw [hS, hs]; rfl
  rw [hS', softmax_row (keeps i) s ⟨i, le_refl _⟩ (fun j => V b j h d)]
  unfold att wei
  simp only [hs]

end Cert.Att
end
-- ==== Proof.Val.lean ====
/-
  What one device's block of the kernel's result is over the reals, step by step at an index.
-/
module

public import proofs.«01_k».proof.Proof.Spec
public import proofs.«01_k».proof.Proof.Att
public import Idealize.ShloMosaic.Lib.Pointwise
public import Idealize.ShloMosaic.Lib.Pointwise.IndexBridge

@[expose] public section

set_option maxRecDepth 16384

noncomputable section

namespace Cert.KernelIdealRing

open Cert.KernelIdeal Cert.KernelIdeal.Gen
open Idealize.ShloMosaic
open Idealize.ShloMosaic.TcCoe

/-! ## One head's scores, sums and products -/

section Head
variable (o : ℕ) (ho : S256x256.Slices ![0, o] S256x64) (hb : o + 64 ≤ 256) (q k v : FVec Ideal S256x256 .bf16)

theorem score_apply (r j : Fin 256) :
    score o ho q k (ix2 r j) = (∑ d : Fin 64, q (ix2 r ⟨o + d.val, by omega⟩) * k (ix2 j ⟨o + d.val, by omega⟩)) * Ideal.ofBits .f32 0x3E000000#32 := by
  unfold score
  pointwise []

theorem pval_apply (p : FVec Ideal S256x256 .f32) (r : Fin 256) (d : Fin 64) :
    pval o ho p v (ix2 r d) = ∑ j : Fin 256, p (ix2 r j) * v (ix2 j ⟨o + d.val, by omega⟩) := by
  unfold pval
  pointwise []

theorem rsum_apply (p : FVec Ideal S256x256 .f32) (r : Fin 256) : rsum p (ix2 r 0) = ∑ j : Fin 256, p (ix2 r j) := by
  unfold rsum
  pointwise []

theorem expV_apply (vis : EReal) (r j : Fin 256) : expV (F := Ideal) o ho q k vis (ix2 r j) = Ideal.exp (score o ho q k (ix2 r j)) * vis := by
  unfold expV
  pointwise []

theorem expD_apply (bias : FVec Ideal S256x256 .f32) (r j : Fin 256) : expD o ho q k bias (ix2 r j) = Ideal.exp (score o ho q k (ix2 r j) + bias (ix2 r j)) := by
  unfold expD
  pointwise []

theorem headOut_apply (vd : FVec Ideal S256x256 .bf16) (bias : FVec Ideal S256x256 .f32) (B : Fin 7 → Blk Ideal) (r : Fin 256) (d : Fin 64) :
    headOut o ho q k vd bias B (ix2 r d) = Ideal.div (numer o ho q k vd bias B (ix2 r d)) (denom o ho q k bias B (ix2 r 0)) := by
  unfold headOut
  pointwise []
end Head

theorem qOf_apply (x : FVec Ideal S1x256x512 .bf16) (wq : FVec Ideal S512x256 .bf16) (r n : Fin 256) :
    qOf x wq (ix2 r n) = ∑ a : Fin 512, x (ix3 0 r a) * wq (ix2 a n) := by
  unfold qOf
  pointwise []

/-- The position's block of 64, as the kernel prints it. -/
def fdivW (j : BitVec 32) : BitVec 32 :=
  Scalar.select
    (IntOp.andi
      (IntOp.cmpi .ne (IntOp.subi (BitVec.setWidth 32 (IntOp.cmpi .sgt j 0#32)) (BitVec.setWidth 32 (IntOp.cmpi .slt j 0#32)))
        (Scalar.subi (Scalar.extui (Scalar.cmpi .sgt 64#32 0#32)) (Scalar.extui (Scalar.cmpi .slt 64#32 0#32))))
      (IntOp.cmpi .ne (IntOp.remsi ArithUnit.vector j 64#32) 0#32))
    (IntOp.subi (IntOp.divsi ArithUnit.vector j 64#32) 1#32) (IntOp.divsi ArithUnit.vector j 64#32)
theorem fdivW_eq : ∀ j : Fin 256, fdivW (BitVec.ofNat 32 j.val) = BitVec.ofNat 32 (j.val / 64) := by decide
theorem sle_blocks (r j : Fin 256) : IntOp.cmpi .sle (fdivW (BitVec.ofNat 32 j.val)) (fdivW (BitVec.ofNat 32 r.val)) = BitVec.ofBool (decide (j.val / 64 ≤ r.val / 64)) := by
  rw [fdivW_eq, fdivW_eq]
  have h : ∀ a b : Fin 4, IntOp.cmpi .sle (BitVec.ofNat 32 b.val) (BitVec.ofNat 32 a.val) = BitVec.ofBool (decide (b.val ≤ a.val)) := by decide
  exact h ⟨r.val / 64, by omega⟩ ⟨j.val / 64, by omega⟩

theorem biasOf_apply (r j : Fin 256) : biasOf (F := Ideal) (ix2 r j) = if j.val / 64 ≤ r.val / 64 then 0 else ⊥ := by
  unfold biasOf
  pointwise [k0_pay11, k0_pay12, k0_pay13, k0_pay14]
  have e := sle_blocks r j
  unfold fdivW at e
  rw [e]
  by_cases h : j.val / 64 ≤ r.val / 64
  · rw [if_pos h, decide_eq_true h]; rfl
  · rw [if_neg h, decide_eq_false h]; rfl

theorem own0_apply (a : FVec Ideal S2x256x256 .bf16) (r n : Fin 256) : own0 a (ix2 r n) = a (ix3 0 r n) := by
  unfold own0
  pointwise []
theorem own1_apply (a : FVec Ideal S2x256x256 .bf16) (r n : Fin 256) : own1 a (ix2 r n) = a (ix3 1 r n) := by
  unfold own1
  pointwise []
theorem pay1_apply (a : FVec Ideal S2x256x4x64 .bf16) (b : Fin 2) (r n : Fin 256) : k0_pay1 a (ix3 b r n) = a (ix4 b r ⟨n.val / 64, by omega⟩ ⟨n.val % 64, by omega⟩) := by
  pointwise [k0_pay1]
theorem pay2_apply (a : FVec Ideal S2x256x4x64 .bf16) (b : Fin 2) (r n : Fin 256) : k0_pay2 a (ix3 b r n) = a (ix4 b r ⟨n.val / 64, by omega⟩ ⟨n.val % 64, by omega⟩) := by
  pointwise [k0_pay2]

theorem outOf_apply (q kd vd : FVec Ideal S256x256 .bf16) (bias : FVec Ideal S256x256 .f32) (B : Fin 7 → Blk Ideal) (wo : FVec Ideal S256x512 .bf16)
    (r : Fin 256) (n : Fin 512) (G : Fin 4 → Fin 64 → EReal)
    (h0 : ∀ d, headOut 0 slices_S256x256_o0_0_S256x64 q kd vd bias B (ix2 r d) = G 0 d)
    (h1 : ∀ d, headOut 64 slices_S256x256_o0_64_S256x64 q kd vd bias B (ix2 r d) = G 1 d)
    (h2 : ∀ d, headOut 128 slices_S256x256_o0_128_S256x64 q kd vd bias B (ix2 r d) = G 2 d)
    (h3 : ∀ d, headOut 192 slices_S256x256_o0_192_S256x64 q kd vd bias B (ix2 r d) = G 3 d) :
    outOf q kd vd bias B wo (ix3 0 r n) = ∑ a : Fin 256, G ⟨a.val / 64, by omega⟩ ⟨a.val % 64, by omega⟩ * wo (ix2 a n) := by
  unfold outOf
  pointwise []
  refine Finset.sum_congr rfl fun a _ => congrArg (· * wo (ix2 a n)) ?_
  simp only [h0, h1, h2, h3]
  have at_ : ∀ (h : Fin 4) (d : Fin 64), h.val = a.val / 64 → d.val = a.val % 64 → G h d = G ⟨a.val / 64, by omega⟩ ⟨a.val % 64, by omega⟩ :=
    fun h d hh hd => by rw [show h = ⟨a.val / 64, by omega⟩ from Fin.ext hh, show d = ⟨a.val % 64, by omega⟩ from Fin.ext hd]
  by_cases c0 : a.val < 64
  · rw [dif_pos c0]; exact at_ _ _ (by show 0 = _; omega) (by show a.val = _; omega)
  rw [dif_neg c0]
  by_cases c1 : a.val - 64 < 64
  · rw [dif_pos c1]; exact at_ _ _ (by show 1 = _; omega) (by show a.val - 64 = _; omega)
  rw [dif_neg c1]
  by_cases c2 : a.val - 64 - 64 < 64
  · rw [dif_pos c2]; exact at_ _ _ (by show 2 = _; omega) (by show a.val - 64 - 64 = _; omega)
  rw [dif_neg c2]
  exact at_ _ _ (by show 3 = _; omega) (by show a.val - 64 - 64 - 64 = _; omega)

/-! ## One device's block -/

/-- Position `r` of device `c`'s block among the 2048. -/
def gi (c : Dev nD) (r : Fin 256) : Fin 2048 := ⟨c.val * 256 + r.val, by have := c.isLt; have : nD = 8 := rfl; omega⟩

/-- The devices in the order in which device `c` adds their blocks. -/
def src (c : Dev nD) : Fin 8 → Dev nD
  | 0 => c
  | 1 => bkR 1 c
  | 2 => bkL 1 c
  | 3 => bkR 2 c
  | 4 => bkL 2 c
  | 5 => bkR 3 c
  | 6 => bkL 3 c
  | 7 => bkR 4 c
theorem src_bij : ∀ c, Function.Bijective (src c) := by decide
theorem src_ne : ∀ (c : Dev nD) (t : Fin 7), src c t.succ ≠ c := by decide

theorem sum_gi (f : Fin 2048 → EReal) : ∑ e : Dev nD, ∑ j : Fin 256, f (gi e j) = ∑ i, f i := by
  have h := Equiv.sum_comp (finProdFinEquiv (m := 8) (n := 256)) (fun i : Fin (8 * 256) => f i)
  rw [Fintype.sum_prod_type] at h
  refine Eq.trans ?_ h
  refine Finset.sum_congr rfl fun e _ => Finset.sum_congr rfl fun j _ => congrArg f (Fin.ext ?_)
  show e.val * 256 + j.val = j.val + 256 * e.val
  omega

/-- A sum over all positions, in the order of device `c`. -/
theorem sum_src (c : Dev nD) (f : Fin 2048 → EReal) :
    (∑ j, f (gi c j)) + (∑ j, f (gi (src c 1) j)) + (∑ j, f (gi (src c 2) j)) + (∑ j, f (gi (src c 3) j)) + (∑ j, f (gi (src c 4) j))
      + (∑ j, f (gi (src c 5) j)) + (∑ j, f (gi (src c 6) j)) + (∑ j, f (gi (src c 7) j)) = ∑ i, f i := by
  rw [← sum_gi, ← (src_bij c).sum_comp (fun e => ∑ j : Fin 256, f (gi e j)), Fin.sum_univ_eight]
  rfl

variable (X : Fin 2 → Fin 2048 → Fin 512 → EReal) (WQ : Fin 512 → Fin 256 → EReal) (K V : Fin 2 → Fin 2048 → Fin 4 → Fin 64 → EReal) (WO : Fin 256 → Fin 512 → EReal)

/-- `B` is device `e`'s block of keys and values of batch `b`, kept by device `c` if `e` comes before it. -/
structure Holds (c : Dev nD) (b : Fin 2) (e : Dev nD) (B : Blk Ideal) : Prop where
  ne : e ≠ c
  vis : B.vis = if e.val < c.val then (1 : EReal) else 0
  key : ∀ j h d, B.k (ix2 j (Att.hd h d)) = K b (gi e j) h d
  val : ∀ j h d, B.v (ix2 j (Att.hd h d)) = V b (gi e j) h d

section Block
variable {c : Dev nD} {b : Fin 2} {q kd vd : FVec Ideal S256x256 .bf16} {B : Fin 7 → Blk Ideal}
variable (hq : ∀ r n, q (ix2 r n) = Att.qry X WQ b (gi c r) n) (hk : ∀ j h d, kd (ix2 j (Att.hd h d)) = K b (gi c j) h d)
  (hv : ∀ j h d, vd (ix2 j (Att.hd h d)) = V b (gi c j) h d) (hB : ∀ t : Fin 7, Holds K V c b (src c t.succ) (B t))
variable (h : Fin 4) (o : ℕ) (ho : S256x256.Slices ![0, o] S256x64) (e : o = h.val * 64)

include hq e in
theorem score_blk {k : FVec Ideal S256x256 .bf16} {dv : Dev nD} (hk : ∀ j h d, k (ix2 j (Att.hd h d)) = K b (gi dv j) h d) (r j : Fin 256) :
    score o ho q k (ix2 r j) = Att.sco X WQ K b h (gi c r) (gi dv j) := by
  subst e
  rw [score_apply _ ho (by omega)]
  unfold Att.sco
  refine congrArg (· * _) (Finset.sum_congr rfl fun d _ => ?_)
  rw [hq]
  exact congrArg (_ * ·) (hk j h d)

include hq hk e in
theorem expD_blk (r j : Fin 256) : expD o ho q kd biasOf (ix2 r j) = Att.wei X WQ K b h (gi c r) (gi c j) := by
  rw [expD_apply, score_blk X WQ K hq h o ho e hk, biasOf_apply]
  unfold Att.wei
  have hi : Att.keeps (gi c r) (gi c j) ↔ j.val / 64 ≤ r.val / 64 := by
    show (c.val * 256 + j.val) / 64 ≤ (c.val * 256 + r.val) / 64 ↔ _; omega
  by_cases hj : j.val / 64 ≤ r.val / 64
  · rw [if_pos hj, if_pos (hi.mpr hj), add_zero]
  · rw [if_neg hj, if_neg (fun z => hj (hi.mp z)), EReal.add_bot]; exact Ideal.exp_bot

include hq e in
theorem expV_blk {dv : Dev nD} {Bk : Blk Ideal} (hBk : Holds K V c b dv Bk) (r j : Fin 256) :
    expV o ho q Bk.k Bk.vis (ix2 r j) = Att.wei X WQ K b h (gi c r) (gi dv j) := by
  rw [expV_apply, score_blk X WQ K hq h o ho e hBk.key, hBk.vis]
  unfold Att.wei
  have hn : dv.val ≠ c.val := fun z => hBk.ne (Fin.ext z)
  have hi : Att.keeps (gi c r) (gi dv j) ↔ dv.val < c.val := by
    show (dv.val * 256 + j.val) / 64 ≤ (c.val * 256 + r.val) / 64 ↔ _; omega
  by_cases hj : dv.val < c.val
  · rw [if_pos hj, if_pos (hi.mpr hj), mul_one]
  · rw [if_neg hj, if_neg (fun z => hj (hi.mp z)), mul_zero]

include hq e in
theorem pval_blk {dv : Dev nD} {Bk : Blk Ideal} (hBk : Holds K V c b dv Bk) (r : Fin 256) (d : Fin 64) :
    pval o ho (expV o ho q Bk.k Bk.vis) Bk.v (ix2 r d) = ∑ j, Att.wei X WQ K b h (gi c r) (gi dv j) * V b (gi dv j) h d := by
  subst e
  rw [pval_apply _ ho (by omega)]
  refine Finset.sum_congr rfl fun j _ => ?_
  rw [expV_blk X WQ K V hq h _ ho rfl hBk]
  exact congrArg (_ * ·) (hBk.val j h d)

include hq e in
theorem rsum_blk {dv : Dev nD} {Bk : Blk Ideal} (hBk : Holds K V c b dv Bk) (r : Fin 256) :
    rsum (expV o ho q Bk.k Bk.vis) (ix2 r 0) = ∑ j, Att.wei X WQ K b h (gi c r) (gi dv j) := by
  rw [rsum_apply]
  exact Finset.sum_congr rfl fun j _ => expV_blk X WQ K V hq h o ho e hBk r j

include hq hk hv hB e in
theorem head_blk (r : Fin 256) (d : Fin 64) : headOut o ho q kd vd biasOf B (ix2 r d) = Att.att X WQ K V b (gi c r) h d := by
  have hn : numer o ho q kd vd biasOf B (ix2 r d) = ∑ i, Att.wei X WQ K b h (gi c r) i * V b i h d := by
    rw [← sum_src c]
    have h0 : pval o ho (expD o ho q kd biasOf) vd (ix2 r d) = ∑ j, Att.wei X WQ K b h (gi c r) (gi c j) * V b (gi c j) h d := by
      subst e
      rw [pval_apply _ ho (by omega)]
      refine Finset.sum_congr rfl fun j _ => ?_
      rw [expD_blk X WQ K hq hk h _ ho rfl]
      exact congrArg (_ * ·) (hv j h d)
    show pval o ho (expD o ho q kd biasOf) vd (ix2 r d) + _ + _ + _ + _ + _ + _ + _ = _
    exact congrArg₂ (· + ·) (congrArg₂ (· + ·) (congrArg₂ (· + ·) (congrArg₂ (· + ·) (congrArg₂ (· + ·) (congrArg₂ (· + ·) (congrArg₂ (· + ·) h0
      (pval_blk X WQ K V hq h o ho e (hB 0) r d)) (pval_blk X WQ K V hq h o ho e (hB 1) r d)) (pval_blk X WQ K V hq h o ho e (hB 2) r d))
      (pval_blk X WQ K V hq h o ho e (hB 3) r d)) (pval_blk X WQ K V hq h o ho e (hB 4) r d)) (pval_blk X WQ K V hq h o ho e (hB 5) r d))
      (pval_blk X WQ K V hq h o ho e (hB 6) r d)
  have hd : denom o ho q kd biasOf B (ix2 r 0) = ∑ i, Att.wei X WQ K b h (gi c r) i := by
    rw [← sum_src c]
    have h0 : rsum (expD o ho q kd biasOf) (ix2 r 0) = ∑ j, Att.wei X WQ K b h (gi c r) (gi c j) := by
      rw [rsum_apply]
      exact Finset.sum_congr rfl fun j _ => expD_blk X WQ K hq hk h o ho e r j
    show rsum (expD o ho q kd biasOf) (ix2 r 0) + _ + _ + _ + _ + _ + _ + _ = _
    exact congrArg₂ (· + ·) (congrArg₂ (· + ·) (congrArg₂ (· + ·) (congrArg₂ (· + ·) (congrArg₂ (· + ·) (congrArg₂ (· + ·) (congrArg₂ (· + ·) h0
      (rsum_blk X WQ K V hq h o ho e (hB 0) r)) (rsum_blk X WQ K V hq h o ho e (hB 1) r)) (rsum_blk X WQ K V hq h o ho e (hB 2) r))
      (rsum_blk X WQ K V hq h o ho e (hB 3) r)) (rsum_blk X WQ K V hq h o ho e (hB 4) r)) (rsum_blk X WQ K V hq h o ho e (hB 5) r))
      (rsum_blk X WQ K V hq h o ho e (hB 6) r)
  rw [headOut_apply, hn, hd]
  rfl

include hq hk hv hB in
/-- A device's rows of the result, of one batch. -/
theorem outOf_blk {wo : FVec Ideal S256x512 .bf16} (hw : ∀ a n, wo (ix2 a n) = WO a n) (r : Fin 256) (n : Fin 512) :
    outOf q kd vd biasOf B wo (ix3 0 r n) = Att.res X WQ K V WO b (gi c r) n := by
  rw [outOf_apply q kd vd biasOf B wo r n (fun h d => Att.att X WQ K V b (gi c r) h d)
    (head_blk X WQ K V hq hk hv hB 0 _ _ rfl r) (head_blk X WQ K V hq hk hv hB 1 _ _ rfl r)
    (head_blk X WQ K V hq hk hv hB 2 _ _ rfl r) (head_blk X WQ K V hq hk hv hB 3 _ _ rfl r)]
  unfold Att.res
  exact Finset.sum_congr rfl fun a _ => by rw [hw]
end Block

end Cert.KernelIdealRing
end
-- ==== Proof.Mem.lean ====
/-
  The kernel's result array over the reals, from the arguments in the devices' memories.
-/
module

public import proofs.«01_k».proof.Proof.Val
public import proofs.«01_k».proof.Proof.Run
public import Idealize.ShloMosaic.Lib.Pipeline.ValueKit

@[expose] public section

set_option maxRecDepth 16384

noncomputable section

namespace Cert.KernelIdealRing

open Cert.KernelIdeal Cert.KernelIdeal.Gen
open Idealize.ShloMosaic
open Idealize.ShloMosaic.TcCoe
open Idealize.ShloMosaic.Pipeline (Dat Cfg Window)

variable (m : (ℓ : Loc nD τ sig) → Buf (Elt Ideal) ℓ) (ρ : Dev nD → PrngReg)

/-! ## Reads -/

theorem xstg_eq (c : Dev nD) : xstg m ρ c = m ((c : Thread nD τ).loc main_arg0) := by
  funext i
  unfold xstg
  blk_simp
  have hz : ∀ a, (win0_0.rect (0 : Fin 1)).off a = 0 := by decide +kernel
  refine congrArg (m ((c : Thread nD τ).loc main_arg0)) (funext fun a => Fin.ext ?_)
  show (win0_0.rect (0 : Fin 1)).off a + 1 * (i a).val = (i a).val
  rw [hz, Nat.zero_add, Nat.one_mul]
theorem wqstg_eq (c : Dev nD) : wqstg m ρ c = m ((c : Thread nD τ).loc main_arg1) := by
  funext i
  unfold wqstg
  blk_simp
  have hz : ∀ a, (win0_1.rect (0 : Fin 1)).off a = 0 := by decide +kernel
  refine congrArg (m ((c : Thread nD τ).loc main_arg1)) (funext fun a => Fin.ext ?_)
  show (win0_1.rect (0 : Fin 1)).off a + 1 * (i a).val = (i a).val
  rw [hz, Nat.zero_add, Nat.one_mul]
theorem kstg_eq (c : Dev nD) : kstg m ρ c = m ((c : Thread nD τ).loc main_arg2) := by
  funext i
  unfold kstg
  blk_simp
  have hz : ∀ a, (win0_2.rect (0 : Fin 1)).off a = 0 := by decide +kernel
  refine congrArg (m ((c : Thread nD τ).loc main_arg2)) (funext fun a => Fin.ext ?_)
  show (win0_2.rect (0 : Fin 1)).off a + 1 * (i a).val = (i a).val
  rw [hz, Nat.zero_add, Nat.one_mul]
theorem vstg_eq (c : Dev nD) : vstg m ρ c = m ((c : Thread nD τ).loc main_arg3) := by
  funext i
  unfold vstg
  blk_simp
  have hz : ∀ a, (win0_3.rect (0 : Fin 1)).off a = 0 := by decide +kernel
  refine congrArg (m ((c : Thread nD τ).loc main_arg3)) (funext fun a => Fin.ext ?_)
  show (win0_3.rect (0 : Fin 1)).off a + 1 * (i a).val = (i a).val
  rw [hz, Nat.zero_add, Nat.one_mul]
theorem wostg_eq (c : Dev nD) : wostg m ρ c = m ((c : Thread nD τ).loc main_arg4) := by
  funext i
  unfold wostg
  blk_simp
  have hz : ∀ a, (win0_4.rect (0 : Fin 1)).off a = 0 := by decide +kernel
  refine congrArg (m ((c : Thread nD τ).loc main_arg4)) (funext fun a => Fin.ext ?_)
  show (win0_4.rect (0 : Fin 1)).off a + 1 * (i a).val = (i a).val
  rw [hz, Nat.zero_add, Nat.one_mul]

theorem x0_apply (c : Dev nD) (r : Fin 256) (n : Fin 512) : x0 m ρ c (ix3 0 r n) = xstg m ρ c (ix3 0 r n) := by
  refine congrArg (xstg m ρ c) (funext fun a => Fin.ext ?_)
  show (![0, 0, 0] : Fin 3 → ℕ) a + 1 * _ = _
  fin_cases a <;> simp <;> rfl
theorem x1_apply (c : Dev nD) (r : Fin 256) (n : Fin 512) : x1 m ρ c (ix3 0 r n) = xstg m ρ c (ix3 1 r n) := by
  refine congrArg (xstg m ρ c) (funext fun a => Fin.ext ?_)
  show (![1, 0, 0] : Fin 3 → ℕ) a + 1 * _ = _
  fin_cases a <;> simp <;> rfl
theorem wqL_apply (c : Dev nD) (r : Fin 512) (n : Fin 256) : wqL m ρ c (ix2 r n) = wqstg m ρ c (ix2 r n) := by
  refine congrArg (wqstg m ρ c) (funext fun a => Fin.ext ?_)
  show (![0, 0] : Fin 2 → ℕ) a + 1 * _ = _
  fin_cases a <;> simp <;> rfl
theorem woL_apply (c : Dev nD) (r : Fin 256) (n : Fin 512) : woL m ρ c (ix2 r n) = wostg m ρ c (ix2 r n) := by
  refine congrArg (wostg m ρ c) (funext fun a => Fin.ext ?_)
  show (![0, 0] : Fin 2 → ℕ) a + 1 * _ = _
  fin_cases a <;> simp <;> rfl
theorem castWo_apply (x : FVec Ideal S256x512 .bf16) (r : Fin 256) (n : Fin 512) : shapeCast S256x512 x shapeCasts_S256x512_S256x512 (ix2 r n) = x (ix2 r n) := by
  pointwise []

/-! ## Blocks kept or dropped -/

theorem bit_vis (b : Bool) : (Scalar.sitofp (F := Ideal) .f32 (Scalar.extui (BitVec.ofBool b) : BitVec 32)) = if b then (1 : EReal) else 0 := by
  cases b
  · show (((BitVec.setWidth 32 (BitVec.ofBool false)).toInt : ℝ) : EReal) = _
    simp
  · show (((BitVec.setWidth 32 (BitVec.ofBool true)).toInt : ℝ) : EReal) = _
    simp

theorem visR_word : ∀ (c : Dev nD) (s : Fin 4), Scalar.cmpi .slt (Scalar.remsi (Scalar.subi (Scalar.subi (Scalar.addi (v2 c) 8#32) 1#32) (BitVec.ofNat 32 s.val)) 8#32) (v2 c)
    = BitVec.ofBool (decide ((bkR s.succ c).val < c.val)) := by decide
theorem visL_word : ∀ (c : Dev nD) (s : Fin 3), Scalar.cmpi .slt (Scalar.remsi (Scalar.addi (Scalar.addi (v2 c) (BitVec.ofNat 32 s.val)) 1#32) 8#32) (v2 c)
    = BitVec.ofBool (decide ((bkL s.succ c).val < c.val)) := by decide

theorem un_apply (X : S256x256.Idx → EReal) (j n : Fin 256) : un (F := Ideal) X (ix5 0 0 0 j n) = X (ix2 j n) := by
  unfold un
  refine congrArg X ((Equiv.symm_apply_eq _).mpr ?_)
  pointwise []

theorem matP_R (s : Fin 5) (t b : Fin 2) (c : Dev nD) (j n : Fin 256) : matP m ρ (.inl (s, t, b)) c (ix2 j n) = kvFull m ρ t (bkR s c) (ix3 b j n) := by
  unfold matP
  pointwise [un_apply]
  exact congrArg (kvFull m ρ t (bkR s c)) (ix3_eq_valueIdx b j n).symm
theorem matP_L (s : Fin 4) (t b : Fin 2) (c : Dev nD) (j n : Fin 256) : matP m ρ (.inr (s, t, b)) c (ix2 j n) = kvFull m ρ t (bkL s c) (ix3 b j n) := by
  unfold matP
  pointwise [un_apply]
  exact congrArg (kvFull m ρ t (bkL s c)) (ix3_eq_valueIdx b j n).symm

/-! ## The result -/

section Result
variable (X : Fin 2 → Fin 2048 → Fin 512 → EReal) (WQ : Fin 512 → Fin 256 → EReal) (K V : Fin 2 → Fin 2048 → Fin 4 → Fin 64 → EReal) (WO : Fin 256 → Fin 512 → EReal)

/-- The devices' memories hold their blocks of the five arrays. -/
structure Args : Prop where
  x : ∀ (c : Dev nD) b r n, m ((c : Thread nD τ).loc main_arg0) (ix3 b r n) = X b (gi c r) n
  wq : ∀ (c : Dev nD) r n, m ((c : Thread nD τ).loc main_arg1) (ix2 r n) = WQ r n
  k : ∀ (c : Dev nD) b r h d, m ((c : Thread nD τ).loc main_arg2) (ix4 b r h d) = K b (gi c r) h d
  v : ∀ (c : Dev nD) b r h d, m ((c : Thread nD τ).loc main_arg3) (ix4 b r h d) = V b (gi c r) h d
  wo : ∀ (c : Dev nD) r n, m ((c : Thread nD τ).loc main_arg4) (ix2 r n) = WO r n

variable {m X WQ K V WO} (A : Args m X WQ K V WO)

theorem hd_div (h : Fin 4) (d : Fin 64) : (⟨(Att.hd h d).val / 64, by have := (Att.hd h d).isLt; omega⟩ : Fin 4) = h :=
  Fin.ext (show (h.val * 64 + d.val) / 64 = h.val by omega)
theorem hd_mod (h : Fin 4) (d : Fin 64) : (⟨(Att.hd h d).val % 64, by omega⟩ : Fin 64) = d :=
  Fin.ext (show (h.val * 64 + d.val) % 64 = d.val by omega)

include A in
theorem key_apply (c : Dev nD) (b : Fin 2) (j : Fin 256) (h : Fin 4) (d : Fin 64) : k0_pay1 (kstg m ρ c) (ix3 b j (Att.hd h d)) = K b (gi c j) h d := by
  rw [pay1_apply, hd_div, hd_mod, kstg_eq, A.k]
include A in
theorem val_apply (c : Dev nD) (b : Fin 2) (j : Fin 256) (h : Fin 4) (d : Fin 64) : k0_pay2 (vstg m ρ c) (ix3 b j (Att.hd h d)) = V b (gi c j) h d := by
  rw [pay2_apply, hd_div, hd_mod, vstg_eq, A.v]

theorem bkR_ne : ∀ (s : Fin 4) (c : Dev nD), bkR s.succ c ≠ c := by decide
theorem bkL_ne : ∀ (s : Fin 3) (c : Dev nD), bkL s.succ c ≠ c := by decide

include A in
theorem holdsR (s : Fin 4) (b : Fin 2) (c : Dev nD) : Holds K V c b (bkR s.succ c) (blkR m ρ s.succ (BitVec.ofNat 32 s.val) b c) where
  ne := bkR_ne s c
  vis := by
    refine (congrArg (fun w : BitVec 1 => (Scalar.sitofp (F := Ideal) .f32 (Scalar.extui w : BitVec 32) : EReal)) (visR_word c s)).trans ((bit_vis _).trans ?_)
    simp only [decide_eq_true_eq]
  key j h d := (matP_R m ρ s.succ 0 b c j (Att.hd h d)).trans (key_apply ρ A _ b j h d)
  val j h d := (matP_R m ρ s.succ 1 b c j (Att.hd h d)).trans (val_apply ρ A _ b j h d)
include A in
theorem holdsL (s : Fin 3) (b : Fin 2) (c : Dev nD) : Holds K V c b (bkL s.succ c) (blkL m ρ s.succ (BitVec.ofNat 32 s.val) b c) where
  ne := bkL_ne s c
  vis := by
    refine (congrArg (fun w : BitVec 1 => (Scalar.sitofp (F := Ideal) .f32 (Scalar.extui w : BitVec 32) : EReal)) (visL_word c s)).trans ((bit_vis _).trans ?_)
    simp only [decide_eq_true_eq]
  key j h d := (matP_L m ρ s.succ 0 b c j (Att.hd h d)).trans (key_apply ρ A _ b j h d)
  val j h d := (matP_L m ρ s.succ 1 b c j (Att.hd h d)).trans (val_apply ρ A _ b j h d)

include A in
theorem holds (b : Fin 2) (c : Dev nD) : ∀ t : Fin 7, Holds K V c b (src c t.succ) (blks m ρ b c t)
  | 0 => holdsR ρ A 0 b c
  | 1 => holdsL ρ A 0 b c
  | 2 => holdsR ρ A 1 b c
  | 3 => holdsL ρ A 1 b c
  | 4 => holdsR ρ A 2 b c
  | 5 => holdsL ρ A 2 b c
  | 6 => holdsR ρ A 3 b c

include A in
theorem out0_apply (c : Dev nD) (r : Fin 256) (n : Fin 512) : out0 m ρ c (ix3 0 r n) = Att.res X WQ K V WO 0 (gi c r) n := by
  unfold out0
  refine outOf_blk X WQ K V WO ?_ ?_ ?_ (holds ρ A 0 c) ?_ r n
  · intro r n
    rw [qOf_apply]
    exact Finset.sum_congr rfl fun a _ => by rw [x0_apply, wqL_apply, xstg_eq, wqstg_eq, A.x, A.wq]
  · intro j h d; rw [own0_apply]; exact key_apply ρ A c 0 j h d
  · intro j h d; rw [own0_apply]; exact val_apply ρ A c 0 j h d
  · intro a n; rw [castWo_apply, woL_apply, wostg_eq, A.wo]
include A in
theorem out1_apply (c : Dev nD) (r : Fin 256) (n : Fin 512) : out1 m ρ c (ix3 0 r n) = Att.res X WQ K V WO 1 (gi c r) n := by
  unfold out1
  refine outOf_blk X WQ K V WO ?_ ?_ ?_ (holds ρ A 1 c) ?_ r n
  · intro r n
    rw [qOf_apply]
    exact Finset.sum_congr rfl fun a _ => by rw [x1_apply, wqL_apply, xstg_eq, wqstg_eq, A.x, A.wq]
  · intro j h d; rw [own1_apply]; exact key_apply ρ A c 1 j h d
  · intro j h d; rw [own1_apply]; exact val_apply ρ A c 1 j h d
  · intro a n; rw [castWo_apply, woL_apply, wostg_eq, A.wo]

include A in
/-- A device's result, at an index: the attention function of the whole arrays, at the device's rows. -/
theorem outV_apply (c : Dev nD) (b : Fin 2) (r : Fin 256) (n : Fin 512) : outV m ρ c (ix3 b r n) = Att.res X WQ K V WO b (gi c r) n := by
  unfold outV
  match b with
  | 0 => exact (congrArg (out0 m ρ c) (ix3_eq_valueIdx 0 r n).symm).trans (out0_apply ρ A c r n)
  | 1 => exact (congrArg (out1 m ρ c) (ix3_eq_valueIdx 0 r n).symm).trans (out1_apply ρ A c r n)
end Result

theorem final_out (c : Dev nD) : finalA m ρ c 5 = outV m ρ c := by
  unfold finalA
  refine (dats m ρ 0 c).arrAt_eq_of_after_last 5 t0_0 (by decide +kernel) _ fun j => ?_
  blk_simp
  rfl

end Cert.KernelIdealRing
end
-- ==== Proof.Ref.lean ====
/-
  What the reference's printed term computes: the attention function of Att.lean of its arguments, where the arguments
  that enter the scores are finite.
-/
module

public import proofs.«01_k».proof.Proof.Gen.ReferenceIdeal.Run
public import proofs.«01_k».proof.Proof.Att
public import Idealize.ShloMosaic.Lib.Pointwise
public import Idealize.ShloMosaic.Lib.Tactic.CleanTypes
public import Idealize.ShloMosaic.Lib.Routing.OpsSearch
public import Idealize.ShloMosaic.Lib.Routing.OpsOrder

@[expose] public section

set_option maxRecDepth 16384

noncomputable section

namespace Cert.RefVal

open Cert.ReferenceIdeal Cert.ReferenceIdeal.Gen Idealize.ShloMosaic Idealize.ShloMosaic.TcCoe

/-! ## The printed term in steps -/

/-- The positions' blocks of 64, and the mask of the kept pairs. -/
def fdiv : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))
def maskR : IVec S2048x2048 1 :=
  cmpi .sle (broadcastInDim S2048x2048 ![0, 1] bcast_S1x2048_S2048x2048_0_1 (broadcastInDim S1x2048 ![1] bcast_S2048_S1x2048_1 fdiv)) (broadcastInDim S2048x2048 ![0, 1] bcast_S2048x1_S2048x2048_0_1 (broadcastInDim S2048x1 ![0] bcast_S2048_S2048x1_0 fdiv))
def keepR : IVec S2048 1 := Host.reduce IntOp.ori maskR (constantI S_ 1 0#1) reducesTo_S2048x2048_S2048_d1 h_S_

variable (x : FVec Ideal S2x2048x512 .bf16) (wq : FVec Ideal S512x256 .bf16) (k v : FVec Ideal S2x2048x4x64 .bf16) (wo : FVec Ideal S256x512 .bf16)

/-- The scores, the masked scores, their exponentials after the largest is taken off, and the weights. -/
def scR : FVec Ideal S2x4x2048x2048 .f32 :=
  mulf (Host.dotGeneral dot_S2x2048x4x64_S2x2048x4x64_S2x4x2048x2048_3_3_1_1_02_02 none (shapeCast S2x2048x4x64 (Host.dotGeneral dot_S2x2048x512_S512x256_S2x2048x256_2_0_01_1_n_n none (extf .f32 x bitsLt_bf16_f32) (extf .f32 wq bitsLt_bf16_f32)) shapeCasts_S2x2048x256_S2x2048x4x64) (extf .f32 k bitsLt_bf16_f32)) (broadcastInDim S2x4x2048x2048 ![] bcast_S_S2x4x2048x2048 (constant S_ .f32 0x3E000000#32))
def mscR : FVec Ideal S2x4x2048x2048 .f32 :=
  select (broadcastInDim S2x4x2048x2048 ![0, 1, 2, 3] bcast_S1x1x2048x2048_S2x4x2048x2048_0_1_2_3 (broadcastInDim S1x1x2048x2048 ![2, 3] bcast_S2048x2048_S1x1x2048x2048_2_3 maskR)) (scR x wq k) (broadcastInDim S2x4x2048x2048 ![] bcast_S_S2x4x2048x2048 (id (constant S_ .f32 0xFF800000#32)))
section Weights
variable (s : FVec Ideal S2x4x2048x2048 .f32)
def exR : FVec Ideal S2x4x2048x2048 .f32 :=
  Host.exp (subf s (broadcastInDim S2x4x2048x2048 ![0, 1, 2, 3] bcast_S2x4x2048x1_S2x4x2048x2048_0_1_2_3 (broadcastInDim S2x4x2048x1 ![0, 1, 2] bcast_S2x4x2048_S2x4x2048x1_0_1_2 (Host.reduce FloatOps.maximumf s (constant S_ .f32 0xFF800000#32) reducesTo_S2x4x2048x2048_S2x4x2048_d3 h_S_))))
def noR (keep : IVec S2048 1) (e : FVec Ideal S2x4x2048x2048 .f32) : FVec Ideal S2x4x2048x2048 .f32 :=
  select (broadcastInDim S2x4x2048x2048 ![0, 1, 2, 3] bcast_S1x1x2048x1_S2x4x2048x2048_0_1_2_3 (broadcastInDim S1x1x2048x1 ![2] bcast_S2048_S1x1x2048x1_2 keep)) (Host.divf e (broadcastInDim S2x4x2048x2048 ![0, 1, 2, 3] bcast_S2x4x2048x1_S2x4x2048x2048_0_1_2_3 (select (broadcastInDim S2x4x2048x1 ![0, 1, 2, 3] bcast_S1x1x2048x1_S2x4x2048x1_0_1_2_3 (broadcastInDim S1x1x2048x1 ![2] bcast_S2048_S1x1x2048x1_2 keep)) (broadcastInDim S2x4x2048x1 ![0, 1, 2] bcast_S2x4x2048_S2x4x2048x1_0_1_2 (Host.reduceAdd e (constant S_ .f32 0x00000000#32) reducesTo_S2x4x2048x2048_S2x4x2048_d3 h_S_)) (broadcastInDim S2x4x2048x1 ![] bcast_S_S2x4x2048x1 (id (constant S_ .f32 0x3F800000#32)))))) (broadcastInDim S2x4x2048x2048 ![] bcast_S_S2x4x2048x2048 (id (constant S_ .f32 0x00000000#32)))
def weR : FVec Ideal S2x4x2048x2048 .f32 := noR keepR (exR s)
end Weights
def ouR (w : FVec Ideal S2x4x2048x2048 .f32) : FVec Ideal S2x2048x512 .f32 :=
  Host.dotGeneral dot_S2x2048x256_S256x512_S2x2048x512_2_0_01_1_n_n none (shapeCast S2x2048x256 (transpose S2x2048x4x64 [0, 3, 1, 2] (Host.dotGeneral dot_S2x2048x4x64_S2x4x2048x2048_S2x4x64x2048_1_3_3_2_02_01 none (extf .f32 v bitsLt_bf16_f32) w) transposes_S2x4x64x2048_S2x2048x4x64_0_3_1_2) shapeCasts_S2x2048x4x64_S2x2048x256) (extf .f32 wo bitsLt_bf16_f32)

theorem res_eq (m : (ℓ : Loc nD τ sig) → Buf (Elt Ideal) ℓ) (c : Dev nD) :
    Cert.ReferenceIdeal.Value.res_main_v38 m c
      = ouR (m ((c.tc : Thread nD τ).loc main_arg3)) (m ((c.tc : Thread nD τ).loc main_arg4))
          (weR (mscR (m ((c.tc : Thread nD τ).loc main_arg0)) (m ((c.tc : Thread nD τ).loc main_arg1)) (m ((c.tc : Thread nD τ).loc main_arg2)))) := rfl

/-! ## Each step at an index -/

theorem fdiv_apply (i : Fin 2048) : fdiv (ix1 i) = BitVec.ofNat 32 (i.val / 64) :=
  Routing.pyDiv0_ap (fun _ => BitVec.ofNat 32 i.val) (fun _ => 64#32) rfl rfl (by omega) (by decide) (by decide)

theorem sle_blocks (i j : Fin 2048) : IntOp.cmpi .sle (BitVec.ofNat 32 (j.val / 64)) (BitVec.ofNat 32 (i.val / 64)) = BitVec.ofBool (decide (Att.keeps i j)) := by
  have h : ∀ a b : Fin 32, IntOp.cmpi .sle (BitVec.ofNat 32 b.val) (BitVec.ofNat 32 a.val) = BitVec.ofBool (decide (b.val ≤ a.val)) := by decide
  exact h ⟨i.val / 64, by omega⟩ ⟨j.val / 64, by omega⟩

theorem maskR_apply (i j : Fin 2048) : maskR (ix2 i j) = BitVec.ofBool (decide (Att.keeps i j)) := by
  unfold maskR
  pointwise []
  rw [fdiv_apply, fdiv_apply]
  exact sle_blocks i j

theorem keepR_apply (i : Fin 2048) : keepR (ix1 i) = 1#1 := by
  unfold keepR
  pointwise []
  rw [Routing.fold_ori]
  exact ⟨i, Finset.mem_univ _, by rw [maskR_apply, decide_eq_true (show Att.keeps i i from le_refl _)]; rfl⟩

theorem scR_apply (b : Fin 2) (h : Fin 4) (i j : Fin 2048) :
    scR x wq k (ix4 b h i j) = Att.sco (fun b i n => x (ix3 b i n)) (fun n o => wq (ix2 n o)) (fun b j h d => k (ix4 b j h d)) b h i j := by
  unfold scR Att.sco Att.qry Att.hd
  pointwise []

theorem neg_inf : Ideal.ofBits .f32 0xFF800000#32 = ⊥ := by
  simp [Ideal.ofBits, Ideal.ieee]

theorem mscR_apply (b : Fin 2) (h : Fin 4) (i j : Fin 2048) :
    mscR x wq k (ix4 b h i j) = if Att.keeps i j then Att.sco (fun b i n => x (ix3 b i n)) (fun n o => wq (ix2 n o)) (fun b j h d => k (ix4 b j h d)) b h i j else ⊥ := by
  unfold mscR
  pointwise []
  rw [maskR_apply, scR_apply]
  by_cases hk : Att.keeps i j
  · rw [if_pos hk, decide_eq_true hk]; rfl
  · rw [if_neg hk, decide_eq_false hk]; exact neg_inf

theorem exR_apply (s : FVec Ideal S2x4x2048x2048 .f32) (b : Fin 2) (h : Fin 4) (i j : Fin 2048) :
    exR s (ix4 b h i j) = Ideal.exp (s (ix4 b h i j) - Finset.univ.fold max (⊥ : EReal) fun j => s (ix4 b h i j)) := by
  unfold exR
  pointwise []
  rw [neg_inf]

theorem noR_apply (keep : IVec S2048 1) (e : FVec Ideal S2x4x2048x2048 .f32) (b : Fin 2) (h : Fin 4) (i j : Fin 2048) (hk : keep (ix1 i) = 1#1) :
    noR keep e (ix4 b h i j) = Ideal.div (e (ix4 b h i j)) (∑ j, e (ix4 b h i j)) := by
  unfold noR
  pointwise []
  rw [hk]
  rfl

theorem weR_apply (s : FVec Ideal S2x4x2048x2048 .f32) (b : Fin 2) (h : Fin 4) (i j : Fin 2048) :
    weR s (ix4 b h i j) = Ideal.div (exR s (ix4 b h i j)) (∑ j, exR s (ix4 b h i j)) :=
  noR_apply keepR (exR s) b h i j (keepR_apply i)

theorem ouR_apply (w : FVec Ideal S2x4x2048x2048 .f32) (b : Fin 2) (i : Fin 2048) (n : Fin 512) :
    ouR v wo w (ix3 b i n) = ∑ a : Fin 256, (∑ j, v (ix4 b j ⟨a.val / 64, by omega⟩ ⟨a.val % 64, by omega⟩) * w (ix4 b ⟨a.val / 64, by omega⟩ i j)) * wo (ix2 a n) := by
  unfold ouR
  pointwise []

/-- One head's column of the reference before the output matrix. -/
theorem ctx_apply (hx : ∀ i, Att.fin (x i)) (hw : ∀ i, Att.fin (wq i)) (hk : ∀ i, Att.fin (k i)) (b : Fin 2) (i : Fin 2048) (h : Fin 4) (d : Fin 64) :
    ∑ j, v (ix4 b j h d) * weR (mscR x wq k) (ix4 b h i j)
      = Att.att (fun b i n => x (ix3 b i n)) (fun n o => wq (ix2 n o)) (fun b j h d => k (ix4 b j h d)) (fun b j h d => v (ix4 b j h d)) b i h d := by
  rw [← Att.att_eq (fun b i n => x (ix3 b i n)) (fun n o => wq (ix2 n o)) (fun b j h d => k (ix4 b j h d)) (fun b j h d => v (ix4 b j h d))
    (fun b i n => hx (ix3 b i n)) (fun n o => hw (ix2 n o)) (fun b j h d => hk (ix4 b j h d)) b i h d
    (fun j => mscR x wq k (ix4 b h i j)) fun j => mscR_apply x wq k b h i j]
  refine Finset.sum_congr rfl fun j _ => ?_
  rw [weR_apply]
  simp only [exR_apply]

/-- The reference's result at an index. -/
theorem ref_apply (hx : ∀ i, Att.fin (x i)) (hw : ∀ i, Att.fin (wq i)) (hk : ∀ i, Att.fin (k i)) (b : Fin 2) (i : Fin 2048) (n : Fin 512) :
    ouR v wo (weR (mscR x wq k)) (ix3 b i n)
      = Att.res (fun b i n => x (ix3 b i n)) (fun n o => wq (ix2 n o)) (fun b j h d => k (ix4 b j h d)) (fun b j h d => v (ix4 b j h d)) (fun a n => wo (ix2 a n)) b i n := by
  rw [ouR_apply]
  unfold Att.res
  simp only [ctx_apply x wq k v hx hw hk]

end Cert.RefVal
end
-- ==== Proof.Pre.lean ====
/-
  The precondition read at an index: the activations, the query weights and the keys are finite.
-/
module

public import proofs.«01_k».proof.Pre_finite_KernelIdeal
public import proofs.«01_k».proof.Proof.Att
public import Idealize.ShloMosaic.Lib.Pointwise
public import Idealize.ShloMosaic.Lib.ReduceAll
public import Idealize.ShloMosaic.Lib.WordArith

@[expose] public section

set_option maxRecDepth 16384

noncomputable section

namespace Cert.PreVal

open Idealize.ShloMosaic Cert.Pre_finite_KernelIdeal Cert.Pre_finite_KernelIdeal.Facts

variable [Cert.Pre_finite_KernelIdeal.Facts]

theorem pos_inf : Ideal.ofBits .f32 0x7F800000#32 = ⊤ := by
  simp [Ideal.ofBits, Ideal.ieee]

theorem fin_of_abs (x : EReal) (h : max x (-x) < ⊤) : Att.fin x := by
  induction x using EReal.rec with
  | bot => simp at h
  | coe r => exact ⟨r, rfl⟩
  | top => simp at h

theorem and_one {a b : BitVec 1} (h : IntOp.andi a b = 1#1) : a = 1#1 ∧ b = 1#1 := by
  revert a b; decide

instance : Subsingleton S_.Idx := ⟨fun a b => funext fun i => i.elim0⟩

/-- Less than infinity in absolute value, as a bit. -/
theorem fin_of_bit (x : EReal) (h : FloatOps.cmpf (F := Ideal) (φ := .f32) .olt (max x (-x)) (Ideal.ofBits .f32 0x7F800000#32) = 1#1) : Att.fin x := by
  rw [pos_inf] at h
  have e : BitVec.ofBool (decide (max x (-x) < ⊤)) = 1#1 := h
  exact fin_of_abs x (of_decide_eq_true ((WordArith.ofBool_eq_one_iff _).mp e))

theorem pre_fin {x : FVec Ideal S2x256x512 .bf16} {wq : FVec Ideal S512x256 .bf16} {k v : FVec Ideal S2x256x4x64 .bf16} {wo : FVec Ideal S256x512 .bf16}
    (h : Cert.Pre_finite_KernelIdeal.fn (F := Ideal) x wq k v wo = fun _ => 1#1) : (∀ i, Att.fin (x i)) ∧ (∀ i, Att.fin (wq i)) ∧ ∀ i, Att.fin (k i) := by
  have e := congrFun h ix0
  dsimp only [fn] at e
  obtain ⟨e01, e2⟩ := and_one e
  obtain ⟨e0, e1⟩ := and_one e01
  exact ⟨fun i => fin_of_bit _ (Host.reduce_andi_all _ _ _ _ _ e0 i), fun i => fin_of_bit _ (Host.reduce_andi_all _ _ _ _ _ e1 i),
    fun i => fin_of_bit _ (Host.reduce_andi_all _ _ _ _ _ e2 i)⟩

end Cert.PreVal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Run
public import proofs.«01_k».proof.Proof.Mem
public import proofs.«01_k».proof.Proof.Ref
public import proofs.«01_k».proof.Proof.Pre
public import proofs.«01_k».proof.Proof.BitsRun
public import Idealize.ShloMosaic.Lib.LayoutAt
public import Idealize.ShloMosaic.Adequacy
public import Idealize.ShloMosaic.Init

@[expose] public section

noncomputable section

namespace Cert.Proof

open Idealize.ShloMosaic Idealize.SL.Sem

theorem frame_kernel : letI := Cert.Kernel.Gen.facts; Cert.quiescent_Kernel := fun m g _ =>
  (θ_run _ _ _).mono (fun r h => ⟨Cert.KernelRing.args_kept m g h.1, h.2⟩) (Cert.KernelRing.run_main (F := Bits) m g)

theorem frame_ideal : letI := Cert.KernelIdeal.Gen.facts; Cert.quiescent_KernelIdeal := fun m g _ =>
  (θ_run _ _ _).mono (fun r h => ⟨Cert.KernelIdealRing.args_kept m g h.1, h.2⟩) (Cert.KernelIdealRing.run_main (F := Ideal) m g)

theorem frame_reference : letI := Cert.ReferenceIdeal.Gen.facts; Cert.quiescent_ReferenceIdeal := fun m g _ => by
  refine (θ_run _ _ _).mono (fun r h => ?_) (Cert.ReferenceIdeal.Value.run (F := Ideal) m g)
  exact ⟨fun c => (h c).2, funext fun ⟨_, s⟩ => by cases s <;> exact Fin.elim0 ‹_›⟩

/-! ## The value -/

section Value
open Cert.KernelIdealRing (gi)

/-- Device `c`'s rows of a whole array, at an index. -/
theorem idx3 (c : Fin 8) (h : Layout.Tiles ⟨3, ![2, 256, 512]⟩ ⟨3, ![2, 2048, 512]⟩ 1 8) (b : Fin 2) (r : Fin 256) (n : Fin 512) :
    h.idx c (ix3 b r n) = ix3 b (gi c r) n := by
  refine Layout.idx_ext fun a => ?_
  match a with
  | ⟨0, _⟩ => exact Layout.Tiles.idx_val_of_ne h c _ _ (by simp)
  | ⟨1, _⟩ => exact Layout.Tiles.idx_val_self h c _ _ rfl
  | ⟨2, _⟩ => exact Layout.Tiles.idx_val_of_ne h c _ _ (by simp)
theorem idx4 (c : Fin 8) (h : Layout.Tiles ⟨4, ![2, 256, 4, 64]⟩ ⟨4, ![2, 2048, 4, 64]⟩ 1 8) (b : Fin 2) (r : Fin 256) (n : Fin 4) (d : Fin 64) :
    h.idx c (ix4 b r n d) = ix4 b (gi c r) n d := by
  refine Layout.idx_ext fun a => ?_
  match a with
  | ⟨0, _⟩ => exact Layout.Tiles.idx_val_of_ne h c _ _ (by simp)
  | ⟨1, _⟩ => exact Layout.Tiles.idx_val_self h c _ _ rfl
  | ⟨2, _⟩ => exact Layout.Tiles.idx_val_of_ne h c _ _ (by simp)
  | ⟨3, _⟩ => exact Layout.Tiles.idx_val_of_ne h c _ _ (by simp)

/-- Every position is one of one device's. -/
theorem gi_surj (i : Fin 2048) : ∃ (c : Fin 8) (r : Fin 256), gi c r = i :=
  ⟨⟨i.val / 256, by omega⟩, ⟨i.val % 256, by omega⟩, Fin.ext (show i.val / 256 * 256 + i.val % 256 = i.val by omega)⟩

/-- Each device's block of a whole array of three or of four axes, at an index. -/
theorem block3 (c : Fin 8) (v : (⟨3, ![2, 2048, 512]⟩ : Shape).Idx → EReal) (b : Fin 2) (r : Fin 256) (n : Fin 512) :
    Layout.block ⟨3, ![2, 256, 512]⟩ ⟨3, ![2, 2048, 512]⟩ 1 8 c v (by decide) (ix3 b r n) = v (ix3 b (gi c r) n) := by
  rw [Layout.block_apply, idx3]
theorem block4 (c : Fin 8) (v : (⟨4, ![2, 2048, 4, 64]⟩ : Shape).Idx → EReal) (b : Fin 2) (r : Fin 256) (n : Fin 4) (d : Fin 64) :
    Layout.block ⟨4, ![2, 256, 4, 64]⟩ ⟨4, ![2, 2048, 4, 64]⟩ 1 8 c v (by decide) (ix4 b r n d) = v (ix4 b (gi c r) n d) := by
  rw [Layout.block_apply, idx4]

/-- The kernel's result array is its device's block of the reference's. -/
theorem value : letI := Cert.KernelIdeal.Gen.facts; letI := Cert.ReferenceIdeal.Gen.facts; letI := Cert.Pre_finite_KernelIdeal.Gen.facts
    Cert.algebraic_KernelIdeal_ReferenceIdeal_pre_finite_KernelIdeal := fun m g m' g' hpre hargs => by
  letI := Cert.Pre_finite_KernelIdeal.Gen.facts
  let x : FVec Ideal Cert.ReferenceIdeal.S2x2048x512 .bf16 := m' (((0 : Dev Cert.ReferenceIdeal.nD).tc : Thread Cert.ReferenceIdeal.nD Cert.ReferenceIdeal.τ).loc Cert.ReferenceIdeal.main_arg0)
  let wq : FVec Ideal Cert.ReferenceIdeal.S512x256 .bf16 := m' (((0 : Dev Cert.ReferenceIdeal.nD).tc : Thread Cert.ReferenceIdeal.nD Cert.ReferenceIdeal.τ).loc Cert.ReferenceIdeal.main_arg1)
  let k : FVec Ideal Cert.ReferenceIdeal.S2x2048x4x64 .bf16 := m' (((0 : Dev Cert.ReferenceIdeal.nD).tc : Thread Cert.ReferenceIdeal.nD Cert.ReferenceIdeal.τ).loc Cert.ReferenceIdeal.main_arg2)
  let v : FVec Ideal Cert.ReferenceIdeal.S2x2048x4x64 .bf16 := m' (((0 : Dev Cert.ReferenceIdeal.nD).tc : Thread Cert.ReferenceIdeal.nD Cert.ReferenceIdeal.τ).loc Cert.ReferenceIdeal.main_arg3)
  let wo : FVec Ideal Cert.ReferenceIdeal.S256x512 .bf16 := m' (((0 : Dev Cert.ReferenceIdeal.nD).tc : Thread Cert.ReferenceIdeal.nD Cert.ReferenceIdeal.τ).loc Cert.ReferenceIdeal.main_arg4)
  have A : Cert.KernelIdealRing.Args m (fun b i n => x (ix3 b i n)) (fun n o => wq (ix2 n o)) (fun b j h d => k (ix4 b j h d)) (fun b j h d => v (ix4 b j h d)) (fun a n => wo (ix2 a n)) :=
    { x := fun c b r n => (congrFun (hargs c).1 (ix3 b r n)).trans (block3 c x b r n)
      wq := fun c r n => congrFun (hargs c).2.1 (ix2 r n)
      k := fun c b r h d => (congrFun (hargs c).2.2.1 (ix4 b r h d)).trans (block4 c k b r h d)
      v := fun c b r h d => (congrFun (hargs c).2.2.2.1 (ix4 b r h d)).trans (block4 c v b r h d)
      wo := fun c r n => congrFun (hargs c).2.2.2.2 (ix2 r n) }
  have P := fun c => Cert.PreVal.pre_fin (hpre c)
  have hx : ∀ i, Cert.Att.fin (x i) := fun i => by
    rw [eq_ix3 i]
    obtain ⟨c, r, e⟩ := gi_surj (i 1)
    rw [← e]
    exact Eq.mp (congrArg Cert.Att.fin (A.x c (i 0) r (i 2))) ((P c).1 (ix3 (i 0) r (i 2)))
  have hw : ∀ i, Cert.Att.fin (wq i) := fun i => by
    rw [eq_ix2 i]
    exact Eq.mp (congrArg Cert.Att.fin (A.wq 0 (i 0) (i 1))) ((P 0).2.1 (ix2 (i 0) (i 1)))
  have hk : ∀ i, Cert.Att.fin (k i) := fun i => by
    rw [eq_ix4 i]
    obtain ⟨c, r, e⟩ := gi_surj (i 1)
    rw [← e]
    exact Eq.mp (congrArg Cert.Att.fin (A.k c (i 0) r (i 2) (i 3))) ((P c).2.2 (ix4 (i 0) r (i 2) (i 3)))
  refine ⟨Cert.ReferenceIdeal.Value.res_main_v38 m' 0, ?_, ?_⟩
  · refine (θ_run _ _ _).mono (fun r h c => ⟨?_, Cert.KernelIdealRing.args_kept m g h.1 c⟩) (Cert.KernelIdealRing.run_main (F := Ideal) m g)
    refine ((h.1 c 5).trans (Cert.KernelIdealRing.final_out m g c)).trans (funext fun (i : (⟨3, ![2, 256, 512]⟩ : Shape).Idx) => ?_)
    rw [eq_ix3 i]
    refine (Cert.KernelIdealRing.outV_apply g A c (i 0) (i 1) (i 2)).trans ?_
    refine Eq.trans ?_ (block3 c (Cert.ReferenceIdeal.Value.res_main_v38 m' 0) (i 0) (i 1) (i 2)).symm
    exact ((congrFun (Cert.RefVal.res_eq m' 0) (ix3 (i 0) (gi c (i 1)) (i 2))).trans (Cert.RefVal.ref_apply x wq k v wo hx hw hk (i 0) (gi c (i 1)) (i 2))).symm
  · exact (θ_run _ _ _).mono (fun r h => h 0) (Cert.ReferenceIdeal.Value.run (F := Ideal) m' g')
end Value

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m g _ => frame_ideal m g trivial, frame_reference, fun m g _ => frame_reference m g trivial,
  IdealRules.named_const.statement Cert.KernelIdeal.κ "mask" .f32 0xCE6E6B28#32 ⊥ rfl, value⟩

end Cert.Proof

end
